-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80_0) = v0 c
          ∧ r.2.mem ((c.tc : Thread Cert.ReferenceIdeal.nD Cert.ReferenceIdeal.τ).loc Cert.ReferenceIdeal.main_v80_1) = v1 c
          ∧ r.2.mem ((c.tc : Thread Cert.ReferenceIdeal.nD Cert.ReferenceIdeal.τ).loc Cert.ReferenceIdeal.main_v80_2) = v2 c
          ∧ r.2.mem ((c.tc : Thread Cert.ReferenceIdeal.nD Cert.ReferenceIdeal.τ).loc Cert.ReferenceIdeal.main_v80_3) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x8192 : Shape := ⟨3, ![48, 1, 8192]⟩
abbrev S8192 : Shape := ⟨1, ![8192]⟩
abbrev S48x1 : Shape := ⟨2, ![48, 1]⟩
abbrev S8192x10240 : Shape := ⟨2, ![8192, 10240]⟩
abbrev S10240 : Shape := ⟨1, ![10240]⟩
abbrev S48x8192 : Shape := ⟨2, ![48, 8192]⟩
abbrev S1x8192 : Shape := ⟨2, ![1, 8192]⟩
abbrev S1x10240 : Shape := ⟨2, ![1, 10240]⟩
abbrev S48x64x128 : Shape := ⟨3, ![48, 64, 128]⟩
abbrev S48x8x128 : Shape := ⟨3, ![48, 8, 128]⟩
abbrev S8192x1024 : Shape := ⟨2, ![8192, 1024]⟩
abbrev S1x1024 : Shape := ⟨2, ![1, 1024]⟩
abbrev S48x128 : Shape := ⟨2, ![48, 128]⟩
abbrev S48 : Shape := ⟨1, ![48]⟩
abbrev S1x254 : Shape := ⟨2, ![1, 254]⟩
abbrev S48x254 : Shape := ⟨2, ![48, 254]⟩
abbrev S1x128 : Shape := ⟨2, ![1, 128]⟩
abbrev S48x1024 : Shape := ⟨2, ![48, 1024]⟩

abbrev nBuf : Space → Nat
  | .hbm => 13
  | .vmem => 15
  | .smem => 0
  | _ => 0

abbrev bufTy : (tb : Table) → Fin (tcTables nBuf tb) → BufTy
  | .hbm, ⟨0, _⟩ => ⟨S48x1x8192, .bf16⟩
  | .hbm, ⟨1, _⟩ => ⟨S8192, .f32⟩
  | .hbm, ⟨2, _⟩ => ⟨S48x1, .i32⟩
  | .hbm, ⟨3, _⟩ => ⟨S8192x10240, .fp8e4m3⟩
  | .hbm, ⟨4, _⟩ => ⟨S10240, .f32⟩
  | .hbm, ⟨5, _⟩ => ⟨S48x8192, .bf16⟩
  | .hbm, ⟨6, _⟩ => ⟨S1x8192, .f32⟩
  | .hbm, ⟨7, _⟩ => ⟨S1x10240, .f32⟩
  | .hbm, ⟨8, _⟩ => ⟨S48x64x128, .bf16⟩
  | .hbm, ⟨9, _⟩ => ⟨S48x8x128, .bf16⟩
  | .hbm, ⟨10, _⟩ => ⟨S48x8x128, .bf16⟩
  | .hbm, ⟨11, _⟩ => ⟨S48x8192, .fp8e4m3⟩
  | .hbm, ⟨12, _⟩ => ⟨S48x1, .f32⟩
  | .local _ .vmem, ⟨0, _⟩ => ⟨S48x8192, .bf16⟩
  | .local _ .vmem, ⟨1, _⟩ => ⟨S1x8192, .f32⟩
  | .local _ .vmem, ⟨2, _⟩ => ⟨S48x1, .i32⟩
  | .local _ .vmem, ⟨3, _⟩ => ⟨S8192x1024, .fp8e4m3⟩
  | .local _ .vmem, ⟨4, _⟩ => ⟨S8192x1024, .fp8e4m3⟩
  | .local _ .vmem, ⟨5, _⟩ => ⟨S1x1024, .f32⟩
  | .local _ .vmem, ⟨6, _⟩ => ⟨S1x1024, .f32⟩
  | .local _ .vmem, ⟨7, _⟩ => ⟨S48x8x128, .bf16⟩
  | .local _ .vmem, ⟨8, _⟩ => ⟨S48x8x128, .bf16⟩
  | .local _ .vmem, ⟨9, _⟩ => ⟨S48x8x128, .bf16⟩
  | .local _ .vmem, ⟨10, _⟩ => ⟨S48x8x128, .bf16⟩
  | .local _ .vmem, ⟨11, _⟩ => ⟨S48x8192, .fp8e4m3⟩
  | .local _ .vmem, ⟨12, _⟩ => ⟨S48x1, .f32⟩
  | .local _ .vmem, ⟨13, _⟩ => ⟨S48x128, .f32⟩
  | .local _ .vmem, ⟨14, _⟩ => ⟨S48x128, .f32⟩
  | _, _ => ⟨S48x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c8_i32 : BitVec 32 := 8#32
  let v15 : BitVec 1 := Scalar.cmpi .slt arg0 c8_i32
  let v16 : BitVec 32 := Scalar.extui v15
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c8_i32_9 : BitVec 32 := 8#32
  let v18 : BitVec 1 := Scalar.cmpi .eq arg0 c8_i32_9
  let v19 : BitVec 32 := Scalar.extui v18
  let c0_i32_10 : BitVec 32 := 0#32
  let v20 : BitVec 1 := Scalar.cmpi .ne v19 c0_i32_10
  v20

def k0_cond4 (i : grid0.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_11 : BitVec 32 := 0#32
  let v23 : BitVec 1 := Scalar.cmpi .ne v22 c0_i32_11
  v23

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S48x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S48x1x8192 : Shape := ⟨3, ![48, 1, 8192]⟩
abbrev S8192 : Shape := ⟨1, ![8192]⟩
abbrev S48x1 : Shape := ⟨2, ![48, 1]⟩
abbrev S8192x10240 : Shape := ⟨2, ![8192, 10240]⟩
abbrev S10240 : Shape := ⟨1, ![10240]⟩
abbrev S48x8192 : Shape := ⟨2, ![48, 8192]⟩
abbrev S_ : Shape := ⟨0, ![]⟩
abbrev S48 : Shape := ⟨1, ![48]⟩
abbrev S1x8192 : Shape := ⟨2, ![1, 8192]⟩
abbrev S253 : Shape := ⟨1, ![253]⟩
abbrev S1x253 : Shape := ⟨2, ![1, 253]⟩
abbrev S48x253 : Shape := ⟨2, ![48, 253]⟩
abbrev S64 : Shape := ⟨1, ![64]⟩
abbrev S1x64 : Shape := ⟨2, ![1, 64]⟩
abbrev S48x64 : Shape := ⟨2, ![48, 64]⟩
abbrev S48x128 : Shape := ⟨2, ![48, 128]⟩
abbrev S1x10240 : Shape := ⟨2, ![1, 10240]⟩
abbrev S48x64x128 : Shape := ⟨3, ![48, 64, 128]⟩
abbrev S48x8x128 : Shape := ⟨3, ![48, 8, 128]⟩
abbrev S48x10240 : Shape := ⟨2, ![48, 10240]⟩
abbrev S48x1024 : Shape := ⟨2, ![48, 1024]⟩
abbrev S48x1x128 : Shape := ⟨3, ![48, 1, 128]⟩
abbrev S48x64x64 : Shape := ⟨3, ![48, 64, 64]⟩
abbrev S48x8x64 : Shape := ⟨3, ![48, 8, 64]⟩

abbrev nBuf : Space → Nat
  | .hbm => 133
  | .vmem => 11
  | .smem => 0
  | _ => 0

abbrev hbmTy0_0 (i : Nat) : BufTy := match i % 128 with
  | 0 => ⟨S48x1x8192, .bf16⟩
  | 1 => ⟨S8192, .f32⟩
  | 2 => ⟨S48x1, .i32⟩
  | 3 => ⟨S8192x10240, .fp8e4m3⟩
  | 4 => ⟨S10240, .f32⟩
  | 5 => ⟨S48x8192, .bf16⟩
  | 6 => ⟨S48x8192, .f32⟩
  | 7 => ⟨S48x8192, .f32⟩
  | 8 => ⟨S_, .f32⟩
  | 9 => ⟨S48, .f32⟩
  | 10 => ⟨S48x1, .f32⟩
  | 11 => ⟨S_, .f32⟩
  | 12 => ⟨S48x1, .f32⟩
  | 13 => ⟨S48x1, .f32⟩
  | 14 => ⟨S_, .f32⟩
  | 15 => ⟨S48x1, .f32⟩
  | 16 => ⟨S48x1, .f32⟩
  | 17 => ⟨S48x1, .f32⟩
  | 18 => ⟨S48x8192, .f32⟩
  | 19 => ⟨S48x8192, .f32⟩
  | 20 => ⟨S1x8192, .f32⟩
  | 21 => ⟨S48x8192, .f32⟩
  | 22 => ⟨S48x8192, .f32⟩
  | 23 => ⟨S48x8192, .f32⟩
  | 24 => ⟨S_, .f32⟩
  | 25 => ⟨S48, .f32⟩
  | 26 => ⟨S48x1, .f32⟩
  | 27 => ⟨S_, .f32⟩
  | 28 => ⟨S48x1, .f32⟩
  | 29 => ⟨S48x1, .f32⟩
  | 30 => ⟨S253, .f32⟩
  | 31 => ⟨S_, .f32⟩
  | 32 => ⟨S253, .f32⟩
  | 33 => ⟨S253, .f32⟩
  | 34 => ⟨S_, .f32⟩
  | 35 => ⟨S253, .f32⟩
  | 36 => ⟨S253, .f32⟩
  | 37 => ⟨S1x253, .f32⟩
  | 38 => ⟨S48x253, .f32⟩
  | 39 => ⟨S48x253, .f32⟩
  | 40 => ⟨S48x253, .i1⟩
  | 41 => ⟨S_, .f32⟩
  | 42 => ⟨S_, .f32⟩
  | 43 => ⟨S48x253, .f32⟩
  | 44 => ⟨S48x253, .f32⟩
  | 45 => ⟨S48x253, .f32⟩
  | 46 => ⟨S_, .f32⟩
  | 47 => ⟨S48, .f32⟩
  | 48 => ⟨S48x1, .f32⟩
  | 49 => ⟨S_, .f32⟩
  | 50 => ⟨S48x1, .f32⟩
  | 51 => ⟨S48x1, .i1⟩
  | 52 => ⟨S_, .f32⟩
  | 53 => ⟨S48x1, .f32⟩
  | 54 => ⟨S48x1, .i1⟩
  | 55 => ⟨S48x1, .i1⟩
  | 56 => ⟨S_, .f32⟩
  | 57 => ⟨S_, .f32⟩
  | 58 => ⟨S48x1, .f32⟩
  | 59 => ⟨S48x1, .f32⟩
  | 60 => ⟨S_, .f32⟩
  | 61 => ⟨S48x1, .f32⟩
  | 62 => ⟨S48x1, .i1⟩
  | 63 => ⟨S_, .f32⟩
  | 64 => ⟨S_, .f32⟩
  | 65 => ⟨S48x1, .f32⟩
  | 66 => ⟨S48x1, .f32⟩
  | 67 => ⟨S_, .f32⟩
  | 68 => ⟨S48x1, .f32⟩
  | 69 => ⟨S48x1, .i1⟩
  | 70 => ⟨S_, .f32⟩
  | 71 => ⟨S48x1, .f32⟩
  | 72 => ⟨S48x1, .i1⟩
  | 73 => ⟨S_, .f32⟩
  | 74 => ⟨S48x1, .f32⟩
  | 75 => ⟨S48x1, .f32⟩
  | 76 => ⟨S_, .f32⟩
  | 77 => ⟨S_, .f32⟩
  | 78 => ⟨S48x1, .f32⟩
  | 79 => ⟨S48x1, .f32⟩
  | 80 => ⟨S_, .f32⟩
  | 81 => ⟨S_, .f32⟩
  | 82 => ⟨S48x1, .f32⟩
  | 83 => ⟨S48x1, .f32⟩
  | 84 => ⟨S48x1, .f32⟩
  | 85 => ⟨S_, .f32⟩
  | 86 => ⟨S48x1, .f32⟩
  | 87 => ⟨S48x1, .i1⟩
  | 88 => ⟨S_, .f32⟩
  | 89 => ⟨S48x1, .f32⟩
  | 90 => ⟨S48x1, .i1⟩
  | 91 => ⟨S_, .f32⟩
  | 92 => ⟨S48x1, .f32⟩
  | 93 => ⟨S48x1, .f32⟩
  | 94 => ⟨S_, .f32⟩
  | 95 => ⟨S_, .f32⟩
  | 96 => ⟨S48x1, .f32⟩
  | 97 => ⟨S48x1, .f32⟩
  | 98 => ⟨S_, .f32⟩
  | 99 => ⟨S_, .f32⟩
  | 100 => ⟨S48x1, .f32⟩
  | 101 => ⟨S48x1, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S_, .f32⟩
  | 116 => ⟨S64, .f32⟩
  | 117 => ⟨S64, .f32⟩
  | 118 => ⟨S48, .i32⟩
  | 119 => ⟨S48, .f32⟩
  | 120 => ⟨S48x1, .f32⟩
  | 121 => ⟨S1x64, .f32⟩
  | 122 => ⟨S48x64, .f32⟩
  | 123 => ⟨S48x64, .f32⟩
  | 124 => ⟨S48x64, .f32⟩
  | 125 => ⟨S48x128, .f32⟩
  | 126 => ⟨S48x128, .f32⟩
  | 127 => ⟨S48x128, .f32⟩
  | _ => ⟨S48x1x8192, .bf16⟩

abbrev hbmTy0_1 (i : Nat) : BufTy := match i % 128 with
  | 0 => ⟨S1x10240, .f32⟩
  | 1 => ⟨S48x64x128, .bf16⟩
  | 2 => ⟨S48x8x128, .bf16⟩
  | 3 => ⟨S48x8x128, .bf16⟩
  | 4 => ⟨S48x8192, .fp8e4m3⟩
  | _ => ⟨S48x1x8192, .bf16⟩

abbrev hbmTy (i : Nat) : BufTy := match i / 128 with
  | 0 => hbmTy0_0 i
  | 1 => hbmTy0_1 i
  | _ => ⟨S48x1x8192, .bf16⟩

abbrev bufTy : (tb : Table) → Fin (tcTables nBuf tb) → BufTy
  | .hbm, ⟨i, _⟩ => hbmTy i
  | .local _ .vmem, ⟨0, _⟩ => ⟨S48x8192, .f32⟩
  | .local _ .vmem, ⟨1, _⟩ => ⟨S48x1, .f32⟩
  | .local _ .vmem, ⟨2, _⟩ => ⟨S48x1, .f32⟩
  | .local _ .vmem, ⟨3, _⟩ => ⟨S48x128, .f32⟩
  | .local _ .vmem, ⟨4, _⟩ => ⟨S48x128, .f32⟩
  | .local _ .vmem, ⟨5, _⟩ => ⟨S8192x10240, .fp8e4m3⟩
  | .local _ .vmem, ⟨6, _⟩ => ⟨S1x10240, .f32⟩
  | .local _ .vmem, ⟨7, _⟩ => ⟨S48x64x128, .bf16⟩
  | .local _ .vmem, ⟨8, _⟩ => ⟨S48x8x128, .bf16⟩
  | .local _ .vmem, ⟨9, _⟩ => ⟨S48x8x128, .bf16⟩
  | .local _ .vmem, ⟨10, _⟩ => ⟨S48x8192, .fp8e4m3⟩
  | _, _ => ⟨S48x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_call1_v0 : Ref sig .tc := ⟨.hbm, 57, rfl⟩
abbrev main_call1_v1 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_call2_v0 : Ref sig .tc := ⟨.hbm, 64, rfl⟩
abbrev main_call2_v1 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_v44 : Ref sig .tc := ⟨.hbm, 72, rfl⟩
abbrev main_cst_15 : Ref sig .tc := ⟨.hbm, 73, rfl⟩
abbrev main_v45 : Ref sig .tc := ⟨.hbm, 74, rfl⟩
abbrev main_v46 : Ref sig .tc := ⟨.hbm, 75, rfl⟩
abbrev main_cst_16 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_cst_17 : Ref sig .tc := ⟨.hbm, 80, rfl⟩
abbrev main_call4_v0 : Ref sig .tc := ⟨.hbm, 81, rfl⟩
abbrev main_call4_v1 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_cst_19 : Ref sig .tc := ⟨.hbm, 88, rfl⟩
abbrev main_v52 : Ref sig .tc := ⟨.hbm, 89, rfl⟩
abbrev main_v53 : Ref sig .tc := ⟨.hbm, 90, rfl⟩
abbrev main_cst_20 : Ref sig .tc := ⟨.hbm, 91, rfl⟩
abbrev main_v54 : Ref sig .tc := ⟨.hbm, 92, rfl⟩
abbrev main_v55 : Ref sig .tc := ⟨.hbm, 93, rfl⟩
abbrev main_cst_21 : Ref sig .tc := ⟨.hbm, 94, rfl⟩
abbrev main_call5_v0 : Ref sig .tc := ⟨.hbm, 95, rfl⟩
abbrev main_call5_v1 : Ref sig .tc := ⟨.hbm, 96, rfl⟩
abbrev main_v56 : Ref sig .tc := ⟨.hbm, 97, rfl⟩
abbrev main_cst_22 : Ref sig .tc := ⟨.hbm, 98, rfl⟩
abbrev main_call6_v0 : Ref sig .tc := ⟨.hbm, 99, rfl⟩
abbrev main_call6_v1 : Ref sig .tc := ⟨.hbm, 100, rfl⟩
abbrev main_v57 : Ref sig .tc := ⟨.hbm, 101, rfl⟩
abbrev main_v58 : Ref sig .tc := ⟨.hbm, 102, rfl⟩
abbrev main_cst_23 : Ref sig .tc := ⟨.hbm, 103, rfl⟩
abbrev main_v59 : Ref sig .tc := ⟨.hbm, 104, rfl⟩
abbrev main_v60 : Ref sig .tc := ⟨.hbm, 105, rfl⟩
abbrev main_cst_24 : Ref sig .tc := ⟨.hbm, 106, rfl⟩
abbrev main_v61 : Ref sig .tc := ⟨.hbm, 107, rfl⟩
abbrev main_v62 : Ref sig .tc := ⟨.hbm, 108, rfl⟩
abbrev main_cst_25 : Ref sig .tc := ⟨.hbm, 109, rfl⟩
abbrev main_v63 : Ref sig .tc := ⟨.hbm, 110, rfl⟩
abbrev main_v64 : Ref sig .tc := ⟨.hbm, 111, rfl⟩
abbrev main_cst_26 : Ref sig .tc := ⟨.hbm, 112, rfl⟩
abbrev main_v65 : Ref sig .tc := ⟨.hbm, 113, rfl⟩
abbrev main_v66 : Ref sig .tc := ⟨.hbm, 114, rfl⟩
abbrev main_cst_27 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80_0 : Ref sig .tc := ⟨.hbm, 129, rfl⟩
abbrev main_v80_1 : Ref sig .tc := ⟨.hbm, 130, rfl⟩
abbrev main_v80_2 : Ref sig .tc := ⟨.hbm, 131, rfl⟩
abbrev main_v80_3 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S48x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x10240 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x10240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x8192 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRuns.lean ====
/- What the runs of the kernel's body share: the body's branch conditions over the grid points, where the output
   windows are idle, and the staging and scratch memrefs. -/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at point 8 only — by arithmetic of the point. -/
theorem hcond0_2 : ∀ t : Fin cfg0.N, cond0_2 (grid0.coords t) ↔ t.val % 10 = 8 :=
  (fun t => by
    have ht : t.val < 10 := Nat.lt_of_lt_of_eq t.isLt N_0
    have e0 : (grid0.coords t 0).val = t.val / 1 % 10 := Pipeline.Grid.coords_val t 0 (by decide) rfl
    simp only [cond0_2, k0_cond3, e0]
    word_cmp
   : ∀ t : Fin grid0.N, cond0_2 (grid0.coords t) ↔ t.val % 10 = 8)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_3, k0_cond4, e0]
    word_cmp
   : ∀ t : Fin grid0.N, cond0_3 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S48x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x8x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S48x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S48x8192 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S48x128 .f32 := Memref.whole cc0_scratch0
abbrev scM0_1 : Memref sig .tc .vmem S48x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Where the outputs are idle -/
theorem idle5 (t : Fin cfg0.N) : cfg0.idle 5 (grid0.coords t) = !(decide (t.val < 8)) := by
  have h := hcond0_1 t
  show (!(k0_cond2 (grid0.coords t) == 1#1)) = _
  by_cases ht : t.val < 8
  · rw [show k0_cond2 (grid0.coords t) = 1#1 from h.mpr ht]; simp [ht]
  · have : ¬ k0_cond2 (grid0.coords t) = 1#1 := fun e => ht (h.mp e)
    simp [ht, this]
theorem idle6 (t : Fin cfg0.N) : cfg0.idle 6 (grid0.coords t) = !(decide (t.val = 8)) := by
  have h := hcond0_2 t
  have hN : t.val < 10 := lt_of_lt_of_eq t.isLt N_0
  show (!(k0_cond3 (grid0.coords t) == 1#1)) = _
  by_cases ht : t.val = 8
  · rw [show k0_cond3 (grid0.coords t) = 1#1 from h.mpr (by omega)]; simp [ht]
  · have : ¬ k0_cond3 (grid0.coords t) = 1#1 := fun e => ht (by have := h.mp e; omega)
    simp [ht, this]
theorem idle7 (t : Fin cfg0.N) : cfg0.idle 7 (grid0.coords t) = !(decide (t.val = 9)) := by
  have h := hcond0_3 t
  have hN : t.val < 10 := lt_of_lt_of_eq t.isLt N_0
  show (!(k0_cond4 (grid0.coords t) == 1#1)) = _
  by_cases ht : t.val = 9
  · rw [show k0_cond4 (grid0.coords t) = 1#1 from h.mpr (by omega)]; simp [ht]
  · have : ¬ k0_cond4 (grid0.coords t) = 1#1 := fun e => ht (by have := h.mp e; omega)
    simp [ht, this]
theorem idle8 (t : Fin cfg0.N) : cfg0.idle 8 (grid0.coords t) = !(decide (t.val = 0)) := by
  have h := hcond0_0 t
  have hN : t.val < 10 := lt_of_lt_of_eq t.isLt N_0
  show (!(k0_cond1 (grid0.coords t) == 1#1)) = _
  by_cases ht : t.val = 0
  · rw [show k0_cond1 (grid0.coords t) = 1#1 from h.mpr (by omega)]; simp [ht]
  · have : ¬ k0_cond1 (grid0.coords t) = 1#1 := fun e => ht (by have := h.mp e; omega)
    simp [ht, this]
theorem idle9 (t : Fin cfg0.N) : cfg0.idle 9 (grid0.coords t) = !(decide (t.val = 0)) := idle8 t

/-! ## Whole accesses -/

/-- One store over the whole of a memref leaves its payload. -/
theorem read_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨_, List.mem_singleton_self _, View.mem_set_unit_zero hz inb y⟩, View.canon_unit_zero hz]
theorem hz2 : (![0, 0] : Fin 2 → ℕ) = fun _ => 0 := by funext k; fin_cases k <;> rfl
theorem hz3 : (![0, 0, 0] : Fin 3 → ℕ) = fun _ => 0 := by funext k; fin_cases k <;> rfl

/-! ## What the first point computes -/

/-- The codes of the quantised activation. -/
abbrev codes (x : Vec F S48x8192 .bf16) (g : Vec F S1x8192 .f32) : Vec F S48x8192 .fp8e4m3 :=
  k0_pay14 (k0_pay6 x g) (k0_pay7 x g) (k0_pay8 x g) (k0_pay9 x g) (k0_pay10 x g) k0_pay11
/-- The scale of the quantised activation. -/
abbrev scale (x : Vec F S48x8192 .bf16) (g : Vec F S1x8192 .f32) : Vec F S48x1 .f32 :=
  k0_pay13 (k0_pay7 x g) (k0_pay8 x g) (k0_pay9 x g) (k0_pay10 x g) k0_pay11
/-- The cosine table. -/
abbrev cosT (p : Vec F S48x1 .i32) : Vec F S48x128 .f32 := k0_pay17 p
/-- The signed sine table. -/
abbrev sinT (p : Vec F S48x1 .i32) : Vec F S48x128 .f32 := k0_pay1 (k0_pay16 p)

end Cert.KernelIdeal.Body

end
-- ==== Proof.KernelRunA.lean ====
/- The kernel's body at the first point: the quantised activation, its scale and the rotation tables are computed and stored, then the first block of q. -/
module

public import proofs.«01_k».proof.Proof.KernelRuns

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the first point: the quantised activation, its scale and the rotation tables are computed and stored, then the first block of q. -/
theorem kernelRun0_A (c : Dev nD) (i : grid0.Coords) (arg1 : Memref sig .tc .vmem S48x8192 .bf16) (harg1 : arg1.IsWhole) (arg2 : Memref sig .tc .vmem S1x8192 .f32) (harg2 : arg2.IsWhole) (arg3 : Memref sig .tc .vmem S48x1 .i32) (harg3 : arg3.IsWhole) (arg4 : Memref sig .tc .vmem S8192x1024 .fp8e4m3) (harg4 : arg4.IsWhole) (arg5 : Memref sig .tc .vmem S1x1024 .f32) (harg5 : arg5.IsWhole) (arg6 : Memref sig .tc .vmem S48x8x128 .bf16) (harg6 : arg6.IsWhole) (arg7 : Memref sig .tc .vmem S48x8x128 .bf16) (harg7 : arg7.IsWhole) (arg8 : Memref sig .tc .vmem S48x8x128 .bf16) (harg8 : arg8.IsWhole) (arg9 : Memref sig .tc .vmem S48x8192 .fp8e4m3) (harg9 : arg9.IsWhole) (arg10 : Memref sig .tc .vmem S48x1 .f32) (harg10 : arg10.IsWhole) (arg11 : Memref sig .tc .vmem S48x128 .f32) (harg11 : arg11.IsWhole) (arg12 : Memref sig .tc .vmem S48x128 .f32) (harg12 : arg12.IsWhole) (hc0 : cond0_0 i) (hc1 : cond0_1 i) (hc2 : ¬cond0_2 i) (hc3 : ¬cond0_3 i)
    (x0 : Vec F S48x8192 .bf16) (x1 : Vec F S1x8192 .f32) (x2 : Vec F S48x1 .i32) (x3 : Vec F S8192x1024 .fp8e4m3) (x4 : Vec F S1x1024 .f32)
    (x6 : Vec F S48x8x128 .bf16) (x7 : Vec F S48x8x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 (codes x0 x1) x3 (scale x0 x1) x4 (cosT x2) (sinT x2)) ∗ owns (c : Thread nD τ) arg7 fullShare x6 ∗ owns (c : Thread nD τ) arg8 fullShare x7 ∗ owns (c : Thread nD τ) arg9 fullShare (codes x0 x1) ∗ owns (c : Thread nD τ) arg10 fullShare (scale x0 x1) ∗ owns (c : Thread nD τ) arg11 fullShare (cosT x2) ∗ owns (c : Thread nD τ) arg12 fullShare (sinT x2)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12) K := by
    intro E K
    simp only [cc0_rmsnorm_fp8_qkv_rope_eq_skeleton]; unfold cc0_rmsnorm_fp8_qkv_rope_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro
      refine (read_store _ _ hz3 _ _).trans ?_
      try delta kernelRun0_A.sl.v3 kernelRun0_A.sl.v7 kernelRun0_A.sl.v24 kernelRun0_A.sl.v26
      try delta kernelRun0_A.sl.H9_1 kernelRun0_A.sl.H10_1 kernelRun0_A.sl.H11_1 kernelRun0_A.sl.H12_1
      try simp only [View.readCov_cons_toLoadRect]
      try delta kernelRun0_A.sl.r_6
      try delta kernelRun0_A.sl.r_5
      try delta kernelRun0_A.sl.r_4
      try delta kernelRun0_A.sl.r_3
      try delta kernelRun0_A.sl.r_2
      try delta kernelRun0_A.sl.r_1
      try delta kernelRun0_A.sl.r
      try simp only [View.readAt_eq_ld, Memref.IsWhole.read_unread]
      try simp (disch := decide) only [View.ld_unit_lit']
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (read_store _ _ hz2 _ _).trans ?_
      try delta kernelRun0_A.sl.v3 kernelRun0_A.sl.v7 kernelRun0_A.sl.v24 kernelRun0_A.sl.v26
      try delta kernelRun0_A.sl.H9_1 kernelRun0_A.sl.H10_1 kernelRun0_A.sl.H11_1 kernelRun0_A.sl.H12_1
      try simp only [View.readCov_cons_toLoadRect]
      try delta kernelRun0_A.sl.r_6
      try delta kernelRun0_A.sl.r_5
      try delta kernelRun0_A.sl.r_4
      try delta kernelRun0_A.sl.r_3
      try delta kernelRun0_A.sl.r_2
      try delta kernelRun0_A.sl.r_1
      try delta kernelRun0_A.sl.r
      try simp only [View.readAt_eq_ld, Memref.IsWhole.read_unread]
      try simp (disch := decide) only [View.ld_unit_lit']
    isplitl [H10]
    · iexists _; isplitr; swap; · iexact H10
      ipureintro
      refine (read_store _ _ hz2 _ _).trans ?_
      try delta kernelRun0_A.sl.v3 kernelRun0_A.sl.v7 kernelRun0_A.sl.v24 kernelRun0_A.sl.v26
      try delta kernelRun0_A.sl.H9_1 kernelRun0_A.sl.H10_1 kernelRun0_A.sl.H11_1 kernelRun0_A.sl.H12_1
      try simp only [View.readCov_cons_toLoadRect]
      try delta kernelRun0_A.sl.r_6
      try delta kernelRun0_A.sl.r_5
      try delta kernelRun0_A.sl.r_4
      try delta kernelRun0_A.sl.r_3
      try delta kernelRun0_A.sl.r_2
      try delta kernelRun0_A.sl.r_1
      try delta kernelRun0_A.sl.r
      try simp only [View.readAt_eq_ld, Memref.IsWhole.read_unread]
      try simp (disch := decide) only [View.ld_unit_lit']
    isplitl [H11]
    · iexists _; isplitr; swap; · iexact H11
      ipureintro
      refine (read_store _ _ hz2 _ _).trans ?_
      try delta kernelRun0_A.sl.v3 kernelRun0_A.sl.v7 kernelRun0_A.sl.v24 kernelRun0_A.sl.v26
      try delta kernelRun0_A.sl.H9_1 kernelRun0_A.sl.H10_1 kernelRun0_A.sl.H11_1 kernelRun0_A.sl.H12_1
      try simp only [View.readCov_cons_toLoadRect]
      try delta kernelRun0_A.sl.r_6
      try delta kernelRun0_A.sl.r_5
      try delta kernelRun0_A.sl.r_4
      try delta kernelRun0_A.sl.r_3
      try delta kernelRun0_A.sl.r_2
      try delta kernelRun0_A.sl.r_1
      try delta kernelRun0_A.sl.r
      try simp only [View.readAt_eq_ld, Memref.IsWhole.read_unread]
      try simp (disch := decide) only [View.ld_unit_lit']
    · iexists _; isplitr; swap; · iexact H12
      ipureintro
      refine (read_store _ _ hz2 _ _).trans ?_
      try delta kernelRun0_A.sl.v3 kernelRun0_A.sl.v7 kernelRun0_A.sl.v24 kernelRun0_A.sl.v26
      try delta kernelRun0_A.sl.H9_1 kernelRun0_A.sl.H10_1 kernelRun0_A.sl.H11_1 kernelRun0_A.sl.H12_1
      try simp only [View.readCov_cons_toLoadRect]
      try delta kernelRun0_A.sl.r_6
      try delta kernelRun0_A.sl.r_5
      try delta kernelRun0_A.sl.r_4
      try delta kernelRun0_A.sl.r_3
      try delta kernelRun0_A.sl.r_2
      try delta kernelRun0_A.sl.r_1
      try delta kernelRun0_A.sl.r
      try simp only [View.readAt_eq_ld, Memref.IsWhole.read_unread]
      try simp (disch := decide) only [View.ld_unit_lit']

end Cert.KernelIdeal.Body

end
-- ==== Proof.KernelRunB.lean ====
/- The kernel's body at a later point of q: a block of q is stored. -/
module

public import proofs.«01_k».proof.Proof.KernelRunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a later point of q: a block of q is stored. -/
theorem kernelRun0_B (c : Dev nD) (i : grid0.Coords) (arg1 : Memref sig .tc .vmem S48x8192 .bf16) (harg1 : arg1.IsWhole) (arg2 : Memref sig .tc .vmem S1x8192 .f32) (harg2 : arg2.IsWhole) (arg3 : Memref sig .tc .vmem S48x1 .i32) (harg3 : arg3.IsWhole) (arg4 : Memref sig .tc .vmem S8192x1024 .fp8e4m3) (harg4 : arg4.IsWhole) (arg5 : Memref sig .tc .vmem S1x1024 .f32) (harg5 : arg5.IsWhole) (arg6 : Memref sig .tc .vmem S48x8x128 .bf16) (harg6 : arg6.IsWhole) (arg7 : Memref sig .tc .vmem S48x8x128 .bf16) (harg7 : arg7.IsWhole) (arg8 : Memref sig .tc .vmem S48x8x128 .bf16) (harg8 : arg8.IsWhole) (arg9 : Memref sig .tc .vmem S48x8192 .fp8e4m3) (harg9 : arg9.IsWhole) (arg10 : Memref sig .tc .vmem S48x1 .f32) (harg10 : arg10.IsWhole) (arg11 : Memref sig .tc .vmem S48x128 .f32) (harg11 : arg11.IsWhole) (arg12 : Memref sig .tc .vmem S48x128 .f32) (harg12 : arg12.IsWhole) (hc0 : ¬cond0_0 i) (hc1 : cond0_1 i) (hc2 : ¬cond0_2 i) (hc3 : ¬cond0_3 i)
    (x0 : Vec F S48x8192 .bf16) (x1 : Vec F S1x8192 .f32) (x2 : Vec F S48x1 .i32) (x3 : Vec F S8192x1024 .fp8e4m3) (x4 : Vec F S1x1024 .f32)
    (x6 : Vec F S48x8x128 .bf16) (x7 : Vec F S48x8x128 .bf16) (x8 : Vec F S48x8192 .fp8e4m3) (x9 : Vec F S48x1 .f32) (x10 : Vec F S48x128 .f32) (x11 : Vec F S48x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x8 x3 x9 x4 x10 x11) ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12) K := by
    intro E K
    simp only [cc0_rmsnorm_fp8_qkv_rope_eq_skeleton]; unfold cc0_rmsnorm_fp8_qkv_rope_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro
      refine (read_store _ _ hz3 _ _).trans ?_
      simp only [View.readAt_eq_ld, Memref.IsWhole.read_unread]
      simp (disch := decide) only [View.ld_unit_lit']
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

end Cert.KernelIdeal.Body

end
-- ==== Proof.KernelRunC.lean ====
/- The kernel's body at the point of k: k is stored. -/
module

public import proofs.«01_k».proof.Proof.KernelRunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the point of k: k is stored. -/
theorem kernelRun0_C (c : Dev nD) (i : grid0.Coords) (arg1 : Memref sig .tc .vmem S48x8192 .bf16) (harg1 : arg1.IsWhole) (arg2 : Memref sig .tc .vmem S1x8192 .f32) (harg2 : arg2.IsWhole) (arg3 : Memref sig .tc .vmem S48x1 .i32) (harg3 : arg3.IsWhole) (arg4 : Memref sig .tc .vmem S8192x1024 .fp8e4m3) (harg4 : arg4.IsWhole) (arg5 : Memref sig .tc .vmem S1x1024 .f32) (harg5 : arg5.IsWhole) (arg6 : Memref sig .tc .vmem S48x8x128 .bf16) (harg6 : arg6.IsWhole) (arg7 : Memref sig .tc .vmem S48x8x128 .bf16) (harg7 : arg7.IsWhole) (arg8 : Memref sig .tc .vmem S48x8x128 .bf16) (harg8 : arg8.IsWhole) (arg9 : Memref sig .tc .vmem S48x8192 .fp8e4m3) (harg9 : arg9.IsWhole) (arg10 : Memref sig .tc .vmem S48x1 .f32) (harg10 : arg10.IsWhole) (arg11 : Memref sig .tc .vmem S48x128 .f32) (harg11 : arg11.IsWhole) (arg12 : Memref sig .tc .vmem S48x128 .f32) (harg12 : arg12.IsWhole) (hc0 : ¬cond0_0 i) (hc1 : ¬cond0_1 i) (hc2 : cond0_2 i) (hc3 : ¬cond0_3 i)
    (x0 : Vec F S48x8192 .bf16) (x1 : Vec F S1x8192 .f32) (x2 : Vec F S48x1 .i32) (x3 : Vec F S8192x1024 .fp8e4m3) (x4 : Vec F S1x1024 .f32)
    (x5 : Vec F S48x8x128 .bf16) (x7 : Vec F S48x8x128 .bf16) (x8 : Vec F S48x8192 .fp8e4m3) (x9 : Vec F S48x1 .f32) (x10 : Vec F S48x128 .f32) (x11 : Vec F S48x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay4 x8 x3 x9 x4 x10 x11) ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12) K := by
    intro E K
    simp only [cc0_rmsnorm_fp8_qkv_rope_eq_skeleton]; unfold cc0_rmsnorm_fp8_qkv_rope_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (read_store _ _ hz3 _ _).trans ?_
      simp only [View.readAt_eq_ld, Memref.IsWhole.read_unread]
      simp (disch := decide) only [View.ld_unit_lit']
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

end Cert.KernelIdeal.Body

end
-- ==== Proof.KernelRunD.lean ====
/- The kernel's body at the last point: v is stored. -/
module

public import proofs.«01_k».proof.Proof.KernelRunC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the last point: v is stored. -/
theorem kernelRun0_D (c : Dev nD) (i : grid0.Coords) (arg1 : Memref sig .tc .vmem S48x8192 .bf16) (harg1 : arg1.IsWhole) (arg2 : Memref sig .tc .vmem S1x8192 .f32) (harg2 : arg2.IsWhole) (arg3 : Memref sig .tc .vmem S48x1 .i32) (harg3 : arg3.IsWhole) (arg4 : Memref sig .tc .vmem S8192x1024 .fp8e4m3) (harg4 : arg4.IsWhole) (arg5 : Memref sig .tc .vmem S1x1024 .f32) (harg5 : arg5.IsWhole) (arg6 : Memref sig .tc .vmem S48x8x128 .bf16) (harg6 : arg6.IsWhole) (arg7 : Memref sig .tc .vmem S48x8x128 .bf16) (harg7 : arg7.IsWhole) (arg8 : Memref sig .tc .vmem S48x8x128 .bf16) (harg8 : arg8.IsWhole) (arg9 : Memref sig .tc .vmem S48x8192 .fp8e4m3) (harg9 : arg9.IsWhole) (arg10 : Memref sig .tc .vmem S48x1 .f32) (harg10 : arg10.IsWhole) (arg11 : Memref sig .tc .vmem S48x128 .f32) (harg11 : arg11.IsWhole) (arg12 : Memref sig .tc .vmem S48x128 .f32) (harg12 : arg12.IsWhole) (hc0 : ¬cond0_0 i) (hc1 : ¬cond0_1 i) (hc2 : ¬cond0_2 i) (hc3 : cond0_3 i)
    (x0 : Vec F S48x8192 .bf16) (x1 : Vec F S1x8192 .f32) (x2 : Vec F S48x1 .i32) (x3 : Vec F S8192x1024 .fp8e4m3) (x4 : Vec F S1x1024 .f32)
    (x5 : Vec F S48x8x128 .bf16) (x6 : Vec F S48x8x128 .bf16) (x8 : Vec F S48x8192 .fp8e4m3) (x9 : Vec F S48x1 .f32) (x10 : Vec F S48x128 .f32) (x11 : Vec F S48x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ owns (c : Thread nD τ) arg10 fullShare x9 ∗ owns (c : Thread nD τ) arg11 fullShare x10 ∗ owns (c : Thread nD τ) arg12 fullShare x11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay5 x8 x3 x9 x4) ∗ owns (c : Thread nD τ) arg9 fullShare x8 ∗ owns (c : Thread nD τ) arg10 fullShare x9 ∗ owns (c : Thread nD τ) arg11 fullShare x10 ∗ owns (c : Thread nD τ) arg12 fullShare x11) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12) K := by
    intro E K
    simp only [cc0_rmsnorm_fp8_qkv_rope_eq_skeleton]; unfold cc0_rmsnorm_fp8_qkv_rope_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      refine (read_store _ _ hz3 _ _).trans ?_
      simp only [View.readAt_eq_ld, Memref.IsWhole.read_unread]
      simp (disch := decide) only [View.ld_unit_lit']
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

end Cert.KernelIdeal.Body

end
-- ==== Proof.KernelBody.lean ====
/- What the kernel's buffers hold, point by point: the proof data of its pipeline, and the body's obligation at
   each point. -/
module

public import proofs.«01_k».proof.Proof.KernelRunD
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first, the ninth and the last grid point. -/
abbrev p0 : Fin cfg0.N := ⟨0, by rw [show cfg0.N = 10 from N_0]; omega⟩
abbrev p8 : Fin cfg0.N := ⟨8, by rw [show cfg0.N = 10 from N_0]; omega⟩
abbrev p9 : Fin cfg0.N := ⟨9, by rw [show cfg0.N = 10 from N_0]; omega⟩
/-- The point at which the block of q held after point `t` was stored. -/
abbrev pq (t : Fin cfg0.N) : Fin cfg0.N := ⟨min t.val 7, lt_of_le_of_lt (Nat.min_le_left _ _) t.isLt⟩

/-- The quantised activation of the launch, its scale and the two rotation tables. -/
def codesV (c : Dev nD) : Vec F S48x8192 .fp8e4m3 := codes (iblk m c 0 p0) (iblk m c 1 p0)
def scaleV (c : Dev nD) : Vec F S48x1 .f32 := scale (iblk m c 0 p0) (iblk m c 1 p0)
def cosV (c : Dev nD) : Vec F S48x128 .f32 := cosT (iblk m c 2 p0)
def sinV (c : Dev nD) : Vec F S48x128 .f32 := sinT (iblk m c 2 p0)
/-- The block of q that point `t` computes; k; v. -/
def qV (c : Dev nD) (t : Fin cfg0.N) : Vec F S48x8x128 .bf16 :=
  k0_pay3 (codesV m c) (iblk m c 3 t) (scaleV m c) (iblk m c 4 t) (cosV m c) (sinV m c)
def kV (c : Dev nD) : Vec F S48x8x128 .bf16 :=
  k0_pay4 (codesV m c) (iblk m c 3 p8) (scaleV m c) (iblk m c 4 p8) (cosV m c) (sinV m c)
def vV (c : Dev nD) : Vec F S48x8x128 .bf16 :=
  k0_pay5 (codesV m c) (iblk m c 3 p9) (scaleV m c) (iblk m c 4 p9)

/-- The invariant between points: before the first the scratch holds anything, afterwards the rotation tables. -/
def PhiS (c : Dev nD) (n : ℕ) : sProp 𝕄 :=
  if n = 0 then Pipeline.ΦA spec0 c
  else iprop(iprop(owns (c : Thread nD τ) scM0_0 fullShare (cosV m c) ∗ owns (c : Thread nD τ) scM0_1 fullShare (sinV m c)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qV m c (pq t)
    | ⟨6, _⟩ => kV m c
    | ⟨7, _⟩ => vV m c
    | ⟨8, _⟩ => codesV m c
    | ⟨9, _⟩ => scaleV m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qV m c (pq t) := by dsimp only [dats]
theorem after0_6 (c : Dev nD) (t : Fin cfg0.N) : (dats m 0 c).after 6 t = kV m c := by dsimp only [dats]
theorem after0_7 (c : Dev nD) (t : Fin cfg0.N) : (dats m 0 c).after 7 t = vV m c := by dsimp only [dats]
theorem after0_8 (c : Dev nD) (t : Fin cfg0.N) : (dats m 0 c).after 8 t = codesV m c := by dsimp only [dats]
theorem after0_9 (c : Dev nD) (t : Fin cfg0.N) : (dats m 0 c).after 9 t = scaleV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- q's buffer is written back at every point but those at which the next one keeps its block. -/
theorem flush0_5 : ∀ t : Fin cfg0.N, (cfg0.win 5).flush t = true ↔ t.val < 7 ∨ t.val = 9 :=
  (by decide +kernel : ∀ t : Fin grid0.N, win0_5.flush t = true ↔ t.val < 7 ∨ t.val = 9)

theorem flush5_false (t : Fin cfg0.N) (h : ¬ (t.val < 7 ∨ t.val = 9)) : (cfg0.win 5).flush t = false :=
  Bool.eq_false_iff.mpr (mt (flush0_5 t).mp h)
theorem flush6_false (t : Fin cfg0.N) (h : t.val ≠ 9) : (cfg0.win 6).flush t = false :=
  Bool.eq_false_iff.mpr (mt (flush0_6 t).mp (by have : t.val < 10 := lt_of_lt_of_eq t.isLt N_0; omega))
theorem flush6_true (t : Fin cfg0.N) (h : t.val = 9) : (cfg0.win 6).flush t = true := (flush0_6 t).mpr (by omega)
theorem flush7_false (t : Fin cfg0.N) (h : t.val ≠ 9) : (cfg0.win 7).flush t = false :=
  Bool.eq_false_iff.mpr (mt (flush0_7 t).mp (by have : t.val < 10 := lt_of_lt_of_eq t.isLt N_0; omega))
theorem flush7_true (t : Fin cfg0.N) (h : t.val = 9) : (cfg0.win 7).flush t = true := (flush0_7 t).mpr (by omega)
theorem flush8_false (t : Fin cfg0.N) (h : t.val ≠ 9) : (cfg0.win 8).flush t = false :=
  Bool.eq_false_iff.mpr (mt (flush0_8 t).mp (by have : t.val < 10 := lt_of_lt_of_eq t.isLt N_0; omega))
theorem flush8_true (t : Fin cfg0.N) (h : t.val = 9) : (cfg0.win 8).flush t = true := (flush0_8 t).mpr (by omega)
theorem flush9_false (t : Fin cfg0.N) (h : t.val ≠ 9) : (cfg0.win 9).flush t = false :=
  Bool.eq_false_iff.mpr (mt (flush0_9 t).mp (by have : t.val < 10 := lt_of_lt_of_eq t.isLt N_0; omega))
theorem flush9_true (t : Fin cfg0.N) (h : t.val = 9) : (cfg0.win 9).flush t = true := (flush0_9 t).mpr (by omega)

/-- A buffer an output's last store filled, and which no later point writes back, still holds it. -/
theorem before_kept (c : Dev nD) (w : Fin cfg0.W) (hout : (cfg0.win w).isOut = true) (X : (cfg0.win w).block.Idx → Elt F (cfg0.win w).elt) (k : ℕ)
    (hafter : ∀ t : Fin cfg0.N, t.val = k → ∀ d, (dats m 0 c).kept w t d = X) (hlive : ∀ t : Fin cfg0.N, t.val = k → cfg0.idle w (grid0.coords t) = false)
    (hidle : ∀ t : Fin cfg0.N, k < t.val → cfg0.idle w (grid0.coords t) = true)
    (hfl : ∀ t : Fin cfg0.N, k ≤ t.val → t.val ≠ 9 → (cfg0.win w).flush t = false) :
    ∀ (n : ℕ) (t : Fin cfg0.N), t.val = n → k < n → ∀ d, (dats m 0 c).before w t d = X := by
  intro n
  induction n with
  | zero => intro t _ h; omega
  | succ n ih =>
    intro t ht hk d
    have hN : t.val < 10 := lt_of_lt_of_eq t.isLt N_0
    rw [(dats m 0 c).before_of_pos w t (by omega) ((cfg0.win w).fetch_out hout t), hfl _ (by show k ≤ t.val - 1; omega) (by show t.val - 1 ≠ 9; omega),
      if_neg Bool.false_ne_true]
    unfold Dat.left
    by_cases h : k = n
    · rw [show cfg0.idle w (cfg0.grid.coords ⟨t.val - 1, _⟩) = false from hlive ⟨t.val - 1, by omega⟩ (by show t.val - 1 = k; omega)]
      exact hafter ⟨t.val - 1, by omega⟩ (by show t.val - 1 = k; omega) d
    · rw [show cfg0.idle w (cfg0.grid.coords ⟨t.val - 1, _⟩) = true from hidle ⟨t.val - 1, by omega⟩ (by show k < t.val - 1; omega)]
      exact ih ⟨t.val - 1, by omega⟩ (by show t.val - 1 = n; omega) (by omega) d

theorem before8 (c : Dev nD) (t : Fin cfg0.N) (h : t.val ≠ 0) (d) : (dats m 0 c).before 8 t d = codesV m c :=
  before_kept m c 8 rfl _ 0 (fun t _ d => by unfold Dat.kept; rw [after0_8]; rfl) (fun t h => by rw [idle8]; simp [h]) (fun t h => by rw [idle8]; simp; omega)
    (fun t _ h => flush8_false t h) t.val t rfl (by omega) d
theorem before9 (c : Dev nD) (t : Fin cfg0.N) (h : t.val ≠ 0) (d) : (dats m 0 c).before 9 t d = scaleV m c :=
  before_kept m c 9 rfl _ 0 (fun t _ d => by unfold Dat.kept; rw [after0_9]; rfl) (fun t h => by rw [idle9]; simp [h]) (fun t h => by rw [idle9]; simp; omega)
    (fun t _ h => flush9_false t h) t.val t rfl (by omega) d
theorem before6 (c : Dev nD) (t : Fin cfg0.N) (h : t.val = 9) (d) : (dats m 0 c).before 6 t d = kV m c :=
  before_kept m c 6 rfl _ 8 (fun t _ d => by unfold Dat.kept; rw [after0_6]; rfl) (fun t h => by rw [idle6]; simp [h]) (fun t h => by rw [idle6]; simp; omega)
    (fun t _ h => flush6_false t h) t.val t rfl (by omega) d
theorem before5 (c : Dev nD) (t : Fin cfg0.N) (h : t.val = 9) (d) : (dats m 0 c).before 5 t d = qV m c (pq t) :=
  before_kept m c 5 rfl _ 7 (fun t' h' d => by unfold Dat.kept; rw [after0_5, show pq t' = pq t from Fin.ext (by show min t'.val 7 = min t.val 7; omega)]; rfl) (fun t h => by rw [idle5]; simp [h]) (fun t h => by rw [idle5]; simp; omega)
    (fun t h h' => flush5_false t (by omega)) t.val t rfl (by omega) d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]
theorem leaves5_live (c : Dev nD) (t : Fin cfg0.N) (h : cfg0.idle 5 (grid0.coords t) = false) :
    (dats m 0 c).leavesExact 5 t = owns (c : Thread nD τ) (ms0_5 t) fullShare (qV m c (pq t)) := by
  unfold Dat.leavesExact; rw [h, after0_5]
theorem leaves5_idle (c : Dev nD) (t : Fin cfg0.N) (h : cfg0.idle 5 (grid0.coords t) = true) (hf : (cfg0.win 5).flush t = false) :
    (dats m 0 c).leavesExact 5 t = iprop(∃ d, owns (c : Thread nD τ) (ms0_5 t) fullShare ((dats m 0 c).before 5 t d)) :=
  (dats m 0 c).leavesExact_idle 5 t h hf
theorem leaves5_flush (c : Dev nD) (t : Fin cfg0.N) (h : cfg0.idle 5 (grid0.coords t) = true) (hf : (cfg0.win 5).flush t = true) :
    (dats m 0 c).leavesExact 5 t = owns (c : Thread nD τ) (ms0_5 t) fullShare (qV m c (pq t)) := by
  unfold Dat.leavesExact; rw [h, hf, after0_5]
theorem leaves6_live (c : Dev nD) (t : Fin cfg0.N) (h : cfg0.idle 6 (grid0.coords t) = false) :
    (dats m 0 c).leavesExact 6 t = owns (c : Thread nD τ) (ms0_6 t) fullShare (kV m c) := by
  unfold Dat.leavesExact; rw [h, after0_6]
theorem leaves6_idle (c : Dev nD) (t : Fin cfg0.N) (h : cfg0.idle 6 (grid0.coords t) = true) (hf : (cfg0.win 6).flush t = false) :
    (dats m 0 c).leavesExact 6 t = iprop(∃ d, owns (c : Thread nD τ) (ms0_6 t) fullShare ((dats m 0 c).before 6 t d)) :=
  (dats m 0 c).leavesExact_idle 6 t h hf
theorem leaves6_flush (c : Dev nD) (t : Fin cfg0.N) (h : cfg0.idle 6 (grid0.coords t) = true) (hf : (cfg0.win 6).flush t = true) :
    (dats m 0 c).leavesExact 6 t = owns (c : Thread nD τ) (ms0_6 t) fullShare (kV m c) := by
  unfold Dat.leavesExact; rw [h, hf, after0_6]
theorem leaves7_live (c : Dev nD) (t : Fin cfg0.N) (h : cfg0.idle 7 (grid0.coords t) = false) :
    (dats m 0 c).leavesExact 7 t = owns (c : Thread nD τ) (ms0_7 t) fullShare (vV m c) := by
  unfold Dat.leavesExact; rw [h, after0_7]
theorem leaves7_idle (c : Dev nD) (t : Fin cfg0.N) (h : cfg0.idle 7 (grid0.coords t) = true) (hf : (cfg0.win 7).flush t = false) :
    (dats m 0 c).leavesExact 7 t = iprop(∃ d, owns (c : Thread nD τ) (ms0_7 t) fullShare ((dats m 0 c).before 7 t d)) :=
  (dats m 0 c).leavesExact_idle 7 t h hf
theorem leaves7_flush (c : Dev nD) (t : Fin cfg0.N) (h : cfg0.idle 7 (grid0.coords t) = true) (hf : (cfg0.win 7).flush t = true) :
    (dats m 0 c).leavesExact 7 t = owns (c : Thread nD τ) (ms0_7 t) fullShare (vV m c) := by
  unfold Dat.leavesExact; rw [h, hf, after0_7]
theorem leaves8_live (c : Dev nD) (t : Fin cfg0.N) (h : cfg0.idle 8 (grid0.coords t) = false) :
    (dats m 0 c).leavesExact 8 t = owns (c : Thread nD τ) (ms0_8 t) fullShare (codesV m c) := by
  unfold Dat.leavesExact; rw [h, after0_8]
theorem leaves8_idle (c : Dev nD) (t : Fin cfg0.N) (h : cfg0.idle 8 (grid0.coords t) = true) (hf : (cfg0.win 8).flush t = false) :
    (dats m 0 c).leavesExact 8 t = iprop(∃ d, owns (c : Thread nD τ) (ms0_8 t) fullShare ((dats m 0 c).before 8 t d)) :=
  (dats m 0 c).leavesExact_idle 8 t h hf
theorem leaves8_flush (c : Dev nD) (t : Fin cfg0.N) (h : cfg0.idle 8 (grid0.coords t) = true) (hf : (cfg0.win 8).flush t = true) :
    (dats m 0 c).leavesExact 8 t = owns (c : Thread nD τ) (ms0_8 t) fullShare (codesV m c) := by
  unfold Dat.leavesExact; rw [h, hf, after0_8]
theorem leaves9_live (c : Dev nD) (t : Fin cfg0.N) (h : cfg0.idle 9 (grid0.coords t) = false) :
    (dats m 0 c).leavesExact 9 t = owns (c : Thread nD τ) (ms0_9 t) fullShare (scaleV m c) := by
  unfold Dat.leavesExact; rw [h, after0_9]
theorem leaves9_idle (c : Dev nD) (t : Fin cfg0.N) (h : cfg0.idle 9 (grid0.coords t) = true) (hf : (cfg0.win 9).flush t = false) :
    (dats m 0 c).leavesExact 9 t = iprop(∃ d, owns (c : Thread nD τ) (ms0_9 t) fullShare ((dats m 0 c).before 9 t d)) :=
  (dats m 0 c).leavesExact_idle 9 t h hf
theorem leaves9_flush (c : Dev nD) (t : Fin cfg0.N) (h : cfg0.idle 9 (grid0.coords t) = true) (hf : (cfg0.win 9).flush t = true) :
    (dats m 0 c).leavesExact 9 t = owns (c : Thread nD τ) (ms0_9 t) fullShare (scaleV m c) := by
  unfold Dat.leavesExact; rw [h, hf, after0_9]

theorem PhiS_pos (c : Dev nD) (n : ℕ) (h : n ≠ 0) : PhiS m c n
    = (iprop(iprop(owns (c : Thread nD τ) scM0_0 fullShare (cosV m c) ∗ owns (c : Thread nD τ) scM0_1 fullShare (sinV m c)) ∗ (∃ r, prngReg c r)) : sProp 𝕄) := by
  unfold PhiS; rw [if_neg h]

set_option maxHeartbeats 4800000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 10 := lt_of_lt_of_eq t.isLt N_0
  obtain rfl : t = p0 := Fin.ext h
  unfold bodyPre bodyPost bodyAt0
  simp only [before0_0, before0_1, before0_2, before0_3, before0_4]
  rw [leaves0 m c p0,
    leaves1 m c p0,
    leaves2 m c p0,
    leaves3 m c p0,
    leaves4 m c p0,
    leaves5_live m c p0 (by rw [idle5]; simp),
    leaves6_idle m c p0 (by rw [idle6]; simp) (flush6_false p0 (by decide)),
    leaves7_idle m c p0 (by rw [idle7]; simp) (flush7_false p0 (by decide)),
    leaves8_live m c p0 (by rw [idle8]; simp),
    leaves9_live m c p0 (by rw [idle9]; simp)]
  rw [show (dats m 0 c).owesAt () (Fin.succ p0) = (dats m 0 c).owesAt () (Fin.castSucc p0) from rfl]
  rw [show (dats m 0 c).Φ (Fin.succ p0) = PhiS m c ((0 : ℕ) + 1) from rfl, PhiS_pos m c _ (Nat.succ_ne_zero _)]
  rw [show (dats m 0 c).Φ (Fin.castSucc p0) = Pipeline.ΦA spec0 c from by show PhiS m c 0 = _; unfold PhiS; rw [if_pos rfl], PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords p0) _ _ _ _ _ _ _ _ _ _ _ _ _ _ _ _ _ _ _ _ _ _ _ _ ((hcond0_0 p0).mpr (by decide)) ((hcond0_1 p0).mpr (by decide)) (mt (hcond0_2 p0).mp (by decide)) (mt (hcond0_3 p0).mp (by decide)) (iblk m c 0 p0) (iblk m c 1 p0) (iblk m c 2 p0) (iblk m c 3 p0) (iblk m c 4 p0) _ _ ) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  iexact H9

set_option maxHeartbeats 4800000 in
/-- The body at the points of q after the first. -/
theorem sound_B (c : Dev nD) (t : Fin cfg0.N) (h0 : t.val ≠ 0) (h : t.val < 8) :
    bodyPre m c t ⊢ wp frame (wpE (defs₀ (F := F)) Variants.none c none) Set.univ (bodyAt0 t) (fun _ => bodyPost m c t) := by
  have hN : t.val < 10 := lt_of_lt_of_eq t.isLt N_0
  unfold bodyPre bodyPost bodyAt0
  simp only [before0_0, before0_1, before0_2, before0_3, before0_4]
  have hq : pq t = t := Fin.ext (by show min t.val 7 = t.val; omega)
  rw [leaves0 m c t,
    leaves1 m c t,
    leaves2 m c t,
    leaves3 m c t,
    leaves4 m c t,
    leaves5_live m c t (by rw [idle5]; simp [h]),
    leaves6_idle m c t (by rw [idle6]; simp; omega) (flush6_false t (by omega)),
    leaves7_idle m c t (by rw [idle7]; simp; omega) (flush7_false t (by omega)),
    leaves8_idle m c t (by rw [idle8]; simp; omega) (flush8_false t (by omega)),
    leaves9_idle m c t (by rw [idle9]; simp; omega) (flush9_false t (by omega))]
  simp only [before8 m c t (by omega), before9 m c t (by omega)]
  rw [show (dats m 0 c).owesAt () (Fin.succ t) = (dats m 0 c).owesAt () (Fin.castSucc t) from rfl]
  rw [show (dats m 0 c).Φ (Fin.succ t) = PhiS m c (t.val + 1) from rfl, PhiS_pos m c _ (Nat.succ_ne_zero _)]
  rw [show (dats m 0 c).Φ (Fin.castSucc t) = PhiS m c t.val from rfl, PhiS_pos m c _ (by omega)]
  rw [hq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_B c (grid0.coords t) _ _ _ _ _ _ _ _ _ _ _ _ _ _ _ _ _ _ _ _ _ _ _ _ (mt (hcond0_0 t).mp (by omega)) ((hcond0_1 t).mpr h) (mt (hcond0_2 t).mp (by omega)) (mt (hcond0_3 t).mp (by omega)) (iblk m c 0 t) (iblk m c 1 t) (iblk m c 2 t) (iblk m c 3 t) (iblk m c 4 t) _ _ _ _ _ _ ) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists (codesV m c); iexact H8
  iexists (scaleV m c); iexact H9

set_option maxHeartbeats 4800000 in
/-- The body at the point of k. -/
theorem sound_C (c : Dev nD) (t : Fin cfg0.N) (h : t.val = 8) :
    bodyPre m c t ⊢ wp frame (wpE (defs₀ (F := F)) Variants.none c none) Set.univ (bodyAt0 t) (fun _ => bodyPost m c t) := by
  have hN : t.val < 10 := lt_of_lt_of_eq t.isLt N_0
  obtain rfl : t = p8 := Fin.ext h
  unfold bodyPre bodyPost bodyAt0
  simp only [before0_0, before0_1, before0_2, before0_3, before0_4]
  rw [leaves0 m c p8,
    leaves1 m c p8,
    leaves2 m c p8,
    leaves3 m c p8,
    leaves4 m c p8,
    leaves5_idle m c p8 (by rw [idle5]; simp) (flush5_false p8 (by simp)),
    leaves6_live m c p8 (by rw [idle6]; simp),
    leaves7_idle m c p8 (by rw [idle7]; simp) (flush7_false p8 (by decide)),
    leaves8_idle m c p8 (by rw [idle8]; simp) (flush8_false p8 (by decide)),
    leaves9_idle m c p8 (by rw [idle9]; simp) (flush9_false p8 (by decide))]
  simp only [before8 m c p8 (by decide), before9 m c p8 (by decide)]
  rw [show (dats m 0 c).owesAt () (Fin.succ p8) = (dats m 0 c).owesAt () (Fin.castSucc p8) from rfl]
  rw [show (dats m 0 c).Φ (Fin.succ p8) = PhiS m c ((8 : ℕ) + 1) from rfl, PhiS_pos m c _ (Nat.succ_ne_zero _)]
  rw [show (dats m 0 c).Φ (Fin.castSucc p8) = PhiS m c p8.val from rfl, PhiS_pos m c _ (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_C c (grid0.coords p8) _ _ _ _ _ _ _ _ _ _ _ _ _ _ _ _ _ _ _ _ _ _ _ _ (mt (hcond0_0 p8).mp (by decide)) (mt (hcond0_1 p8).mp (by decide)) ((hcond0_2 p8).mpr (by decide)) (mt (hcond0_3 p8).mp (by decide)) (iblk m c 0 p8) (iblk m c 1 p8) (iblk m c 2 p8) (iblk m c 3 p8) (iblk m c 4 p8) _ _ _ _ _ _ ) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists (codesV m c); iexact H8
  iexists (scaleV m c); iexact H9

set_option maxHeartbeats 4800000 in
/-- The body at the last point. -/
theorem sound_D (c : Dev nD) (t : Fin cfg0.N) (h : t.val = 9) :
    bodyPre m c t ⊢ wp frame (wpE (defs₀ (F := F)) Variants.none c none) Set.univ (bodyAt0 t) (fun _ => bodyPost m c t) := by
  have hN : t.val < 10 := lt_of_lt_of_eq t.isLt N_0
  obtain rfl : t = p9 := Fin.ext h
  unfold bodyPre bodyPost bodyAt0
  simp only [before0_0, before0_1, before0_2, before0_3, before0_4]
  rw [leaves0 m c p9,
    leaves1 m c p9,
    leaves2 m c p9,
    leaves3 m c p9,
    leaves4 m c p9,
    leaves5_flush m c p9 (by rw [idle5]; simp) ((flush0_5 p9).mpr (by simp)),
    leaves6_flush m c p9 (by rw [idle6]; simp) (flush6_true p9 rfl),
    leaves7_live m c p9 (by rw [idle7]; simp),
    leaves8_flush m c p9 (by rw [idle8]; simp) (flush8_true p9 rfl),
    leaves9_flush m c p9 (by rw [idle9]; simp) (flush9_true p9 rfl)]
  simp only [before8 m c p9 (by decide), before9 m c p9 (by decide), before6 m c p9 rfl, before5 m c p9 rfl]
  rw [show (dats m 0 c).owesAt () (Fin.succ p9) = (dats m 0 c).owesAt () (Fin.castSucc p9) from rfl]
  rw [show (dats m 0 c).Φ (Fin.succ p9) = PhiS m c ((9 : ℕ) + 1) from rfl, PhiS_pos m c _ (Nat.succ_ne_zero _)]
  rw [show (dats m 0 c).Φ (Fin.castSucc p9) = PhiS m c p9.val from rfl, PhiS_pos m c _ (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_D c (grid0.coords p9) _ _ _ _ _ _ _ _ _ _ _ _ _ _ _ _ _ _ _ _ _ _ _ _ (mt (hcond0_0 p9).mp (by decide)) (mt (hcond0_1 p9).mp (by decide)) (mt (hcond0_2 p9).mp (by decide)) ((hcond0_3 p9).mpr (by decide)) (iblk m c 0 p9) (iblk m c 1 p9) (iblk m c 2 p9) (iblk m c 3 p9) (iblk m c 4 p9) _ _ _ _ _ _ ) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at every point. -/
theorem sound_body (c : Dev nD) (t : Fin cfg0.N) :
    bodyPre m c t ⊢ wp frame (wpE (defs₀ (F := F)) Variants.none c none) Set.univ (bodyAt0 t) (fun _ => bodyPost m c t) := by
  have hN : t.val < 10 := lt_of_lt_of_eq t.isLt N_0
  by_cases h0 : t.val = 0
  · exact sound_A m c t h0
  by_cases h1 : t.val < 8
  · exact sound_B m c t h0 h1
  by_cases h2 : t.val = 8
  · exact sound_C m c t h2
  · exact sound_D m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the region starts with is the invariant before the first point, -/
theorem hin (c : Dev nD) : Pipeline.ΦA spec0 c ⊢ (dats (F := F) m 0 c).Φ 0 := by
  rw [show (dats m 0 c).Φ 0 = Pipeline.ΦA spec0 c from by show PhiS m c 0 = _; unfold PhiS; rw [if_pos rfl]]
/-- and the invariant after the last one gives it back, the tables' values forgotten. -/
theorem hout (c : Dev nD) : (dats (F := F) m 0 c).Φ (Fin.last _) ⊢ Pipeline.ΦA spec0 c := by
  rw [show (dats m 0 c).Φ (Fin.last _) = PhiS m c cfg0.N from rfl, PhiS_pos m c _ (by rw [show cfg0.N = 10 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: every array of the pipeline ends as the proof data say, and every semaphore counter at zero. -/
theorem run_main_quiescent : θ_run defs (onTc (τ := τ) (main (F := F))) (s₀ m ρ) (fun r => (Pipeline.FramePost cfgs (dats m) (0 : Fin 1) (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.KernelSame.lean ====
/- The kernel printed for its bits and the kernel printed for the ideal instance are one text: their programs are
   equal at every instance, so the frame proved of the one is the frame of the other. -/
module

public import proofs.«01_k».proof.Defs
public import proofs.«01_k».proof.Proof.Gen.Kernel
public import proofs.«01_k».proof.Proof.KernelBody

@[expose] public section

set_option maxRecDepth 16384

noncomputable section

namespace Cert.Kernel.Same

open Idealize.ShloMosaic Idealize.SL.Sem

variable {F : FTy → Type} [FloatOps F]

/-- The two host programs are equal. -/
theorem main_eq : Cert.Kernel.main (F := F) = Cert.KernelIdeal.main (F := F) := rfl

/-- The two tables of kernel bodies are equal. -/
theorem bodies_eq : Cert.Kernel.defs₀ (F := F) = Cert.KernelIdeal.defs₀ (F := F) := by
  unfold Cert.Kernel.defs₀ Cert.KernelIdeal.defs₀
  refine congrArg Defs.onTc ?_
  funext ⟨l, h⟩ x
  match l, h, x with
  | 0, _, (t, s) => rfl

/-- So are the tables with the pipelines added. -/
theorem defs_eq : Cert.Kernel.defs (F := F) = Cert.KernelIdeal.defs (F := F) := by
  unfold Cert.Kernel.defs Cert.KernelIdeal.defs
  rw [bodies_eq]
  rfl

/-- The frame of the kernel at its bits: it terminates without a fault, the argument arrays end unchanged and every
    semaphore counter ends at zero. -/
theorem frame : Cert.quiescent_Kernel := by
  intro m g _
  rw [defs_eq]
  exact Cert.KernelIdeal.Body.frame (F := Bits) m g

end Cert.Kernel.Same

end
-- ==== Proof.RefHost.lean ====
/- What the plain program computes on the host, step by step, as functions of its arguments: the normalised activation,
   its largest magnitude, the quantiser's exponent and the powers of two, the rotation tables. -/
module

public import proofs.«01_k».proof.Proof.Gen.ReferenceIdeal.Frame
public import Idealize.ShloMosaic.Lib.Claim

@[expose] public section

set_option maxRecDepth 16384

noncomputable section

namespace Cert.ReferenceIdeal.Host

open Idealize.ShloMosaic Idealize.ShloMosaic.TcCoe Idealize.ShloMosaic.Tactic
open Cert.ReferenceIdeal.Gen

variable {F : FTy → Type} [FloatOps F]

/-- A scalar constant spread over a column. -/
abbrev col (w : BitVec 32) : FVec F S48x1 .f32 := broadcastInDim S48x1 ![] bcast_S_S48x1 (constant S_ .f32 w)

/-- The mean of the squares of each row. -/
def varR (x : FVec F S48x8192 .f32) : FVec F S48x1 .f32 :=
  Host.divf (broadcastInDim S48x1 ![0] bcast_S48_S48x1_0 (Host.reduceAdd (mulf x x) (constant S_ .f32 0x00000000#32) reducesTo_S48x8192_S48_d1 h_S_)) (col 0x46000000#32)

/-- The activation in single precision, one token a row. -/
def xR (x : Vec F S48x1x8192 .bf16) : FVec F S48x8192 .f32 := extf .f32 (shapeCast S48x8192 x shapeCasts_S48x1x8192_S48x8192) bitsLt_bf16_f32

/-- The normalised activation. -/
def hR (x : Vec F S48x1x8192 .bf16) (g : Vec F S8192 .f32) : FVec F S48x8192 .f32 :=
  mulf (mulf (xR x) (broadcastInDim S48x8192 ![0, 1] bcast_S48x1_S48x8192_0_1 (Host.rsqrt (addf (varR (xR x)) (col 0x358637BD#32)))))
    (broadcastInDim S48x8192 ![0, 1] bcast_S1x8192_S48x8192_0_1 (broadcastInDim S1x8192 ![1] bcast_S8192_S1x8192_1 g))

/-- The largest magnitude of each row. -/
def aR (h : FVec F S48x8192 .f32) : FVec F S48x1 .f32 :=
  broadcastInDim S48x1 ![0] bcast_S48_S48x1_0 (Host.reduce FloatOps.maximumf (Host.absf h) (constant S_ .f32 0xFF800000#32) reducesTo_S48x8192_S48_d1 h_S_)

/-- The largest magnitude over 448. -/
def tR (a : FVec F S48x1 .f32) : FVec F S48x1 .f32 := mulf a (col 0x3B124925#32)

/-- The candidate exponents -125 … 127. -/
def kR : FVec F S253 .f32 := addf (broadcastInDim S253 ![] bcast_S_S253 (constant S_ .f32 0xC2FA0000#32)) (sitofp .f32 (iotaInDim S253 32 0))

/-- The least candidate `k` with `t < 2 ^ k`, 128 where there is none. -/
def minR (t : FVec F S48x1 .f32) : FVec F S48x1 .f32 :=
  broadcastInDim S48x1 ![0] bcast_S48_S48x1_0 (Host.reduce FloatOps.minimumf
    (select (cmpf .olt (broadcastInDim S48x253 ![0, 1] bcast_S48x1_S48x253_0_1 t)
        (broadcastInDim S48x253 ![0, 1] bcast_S1x253_S48x253_0_1 (broadcastInDim S1x253 ![1] bcast_S253_S1x253_1
          (Host.powf (broadcastInDim S253 ![] bcast_S_S253 (constant S_ .f32 0x40000000#32)) kR))))
      (broadcastInDim S48x253 ![1] bcast_S253_S48x253_1 kR)
      (broadcastInDim S48x253 ![] bcast_S_S48x253 (constant S_ .f32 0x43000000#32)))
    (constant S_ .f32 0x7F800000#32) reducesTo_S48x253_S48_d1 h_S_)

/-- The quantiser's exponent. -/
def eR (a t : FVec F S48x1 .f32) : FVec F S48x1 .f32 :=
  select (cmpf .oeq a (col 0x00000000#32)) (col 0x00000000#32)
    (select (andi (cmpf .oge t (col 0x00800000#32)) (cmpf .olt t (col 0x7F800000#32))) (minR t) (col 0x00000000#32))

/-- `2 ^ e` for an `e` in the normal range, 0 below it and inf above it. -/
def pR (e : FVec F S48x1 .f32) : FVec F S48x1 .f32 :=
  select (cmpf .ogt e (col 0x42FE0000#32)) (col 0x7F800000#32)
    (select (cmpf .olt e (col 0xC2FC0000#32)) (col 0x00000000#32) (Host.powf (col 0x40000000#32) e))

/-- The quantiser's exponent of the normalised activation. -/
def exR (x : Vec F S48x1x8192 .bf16) (g : Vec F S8192 .f32) : FVec F S48x1 .f32 := eR (aR (hR x g)) (tR (aR (hR x g)))

/-- One over the base to the even numbers over 128. -/
def freqR : FVec F S64 .f32 :=
  Host.divf (broadcastInDim S64 ![] bcast_S_S64 (constant S_ .f32 0x3F800000#32))
    (Host.powf (broadcastInDim S64 ![] bcast_S_S64 (constant S_ .f32 0x461C4000#32))
      (Host.divf (addf (broadcastInDim S64 ![] bcast_S_S64 (constant S_ .f32 0x00000000#32))
          (mulf (broadcastInDim S64 ![] bcast_S_S64 (constant S_ .f32 0x40000000#32)) (sitofp .f32 (iotaInDim S64 32 0))))
        (broadcastInDim S64 ![] bcast_S_S64 (constant S_ .f32 0x43000000#32))))

/-- The angles of the first half of the lanes. -/
def ang0R (p : Vec F S48x1 .i32) : FVec F S48x64 .f32 :=
  mulf (broadcastInDim S48x64 ![0, 1] bcast_S48x1_S48x64_0_1 (broadcastInDim S48x1 ![0] bcast_S48_S48x1_0 (sitofp .f32 (shapeCast S48 p shapeCasts_S48x1_S48))))
    (broadcastInDim S48x64 ![0, 1] bcast_S1x64_S48x64_0_1 (broadcastInDim S1x64 ![1] bcast_S64_S1x64_1 freqR))

/-- The angles. -/
def angR (p : Vec F S48x1 .i32) : FVec F S48x128 .f32 :=
  concatenate S48x128 1 [⟨S48x64, ang0R p⟩, ⟨S48x64, ang0R p⟩] concatenates_S48x64_S48x64_S48x128_d1

variable (m : (ℓ : Loc nD τ sig) → Buf (Elt F) ℓ)

set_option maxHeartbeats 3200000 in
/-- The region finds the normalised activation, -/
theorem V_h (c : Dev nD) : V m c main_v14 = hR (m ((c : Thread nD τ).loc main_arg0)) (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.after_cons, StableHlo.after_nil]
  after_results_simp
  after_results_loop
  rfl

set_option maxHeartbeats 3200000 in
/-- the weight's scales, -/
theorem V_ws (c : Dev nD) : V m c main_v79 = shapeCast S1x10240 (m ((c : Thread nD τ).loc main_arg4)) shapeCasts_S10240_S1x10240 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.after_cons, StableHlo.after_nil]
  after_results_simp
  after_results_loop
  rfl

set_option maxHeartbeats 3200000 in
/-- the cosines, -/
theorem V_cos (c : Dev nD) : V m c main_v77 = Host.cos (angR (m ((c : Thread nD τ).loc main_arg2))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.after_cons, StableHlo.after_nil]
  after_results_simp
  after_results_loop
  rfl

set_option maxHeartbeats 3200000 in
/-- the sines, -/
theorem V_sin (c : Dev nD) : V m c main_v78 = Host.sin (angR (m ((c : Thread nD τ).loc main_arg2))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.after_cons, StableHlo.after_nil]
  after_results_simp
  after_results_loop
  rfl

set_option maxHeartbeats 3200000 in
/-- the scale -/
theorem V_scale (c : Dev nD) : V m c main_v48 = pR (exR (m ((c : Thread nD τ).loc main_arg0)) (m ((c : Thread nD τ).loc main_arg1))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.after_cons, StableHlo.after_nil]
  after_results_simp
  after_results_loop
  rfl

set_option maxHeartbeats 3200000 in
/-- and its inverse. -/
theorem V_inv (c : Dev nD) : V m c main_v57 = pR (Host.negf (exR (m ((c : Thread nD τ).loc main_arg0)) (m ((c : Thread nD τ).loc main_arg1)))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.after_cons, StableHlo.after_nil]
  after_results_simp
  after_results_loop
  rfl

end Cert.ReferenceIdeal.Host

end
-- ==== Proof.RefRun.lean ====
/- What the plain program's run leaves in its five results, as functions of its arguments. -/
module

public import proofs.«01_k».proof.Proof.RefHost
public import Idealize.ShloMosaic.Lib.Pipeline.ValueKit

@[expose] public section

set_option maxRecDepth 16384

noncomputable section

namespace Cert.ReferenceIdeal.Host

open Idealize.ShloMosaic Idealize.ShloMosaic.TcCoe Idealize.ShloMosaic.Tactic Idealize.SL.Sem
open Idealize.ShloMosaic.Pipeline (Dat)
open Cert.ReferenceIdeal.Gen

variable {F : FTy → Type} [FloatOps F]

variable (m : (ℓ : Loc nD τ sig) → Buf (Elt F) ℓ) (ρ : Dev nD → PrngReg)

/-- Every window has its whole array for its block. -/
theorem idx : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0]
    ∧ win0_7.index t0_0 = ![0, 0, 0] ∧ win0_8.index t0_0 = ![0, 0, 0] ∧ win0_9.index t0_0 = ![0, 0, 0] ∧ win0_10.index t0_0 = ![0, 0] := by
  decide +kernel

theorem blk0 (c : Dev nD) : iblk m c 0 t0_0 = V m c main_v14 := by blk_ext! [iblk, idx]
theorem blk1 (c : Dev nD) : iblk m c 1 t0_0 = V m c main_v57 := by blk_ext! [iblk, idx]
theorem blk2 (c : Dev nD) : iblk m c 2 t0_0 = V m c main_v48 := by blk_ext! [iblk, idx]
theorem blk3 (c : Dev nD) : iblk m c 3 t0_0 = V m c main_v77 := by blk_ext! [iblk, idx]
theorem blk4 (c : Dev nD) : iblk m c 4 t0_0 = V m c main_v78 := by blk_ext! [iblk, idx]
theorem blk5 (c : Dev nD) : iblk m c 5 t0_0 = V m c main_arg3 := by blk_ext! [iblk, idx]
theorem blk6 (c : Dev nD) : iblk m c 6 t0_0 = V m c main_v79 := by blk_ext! [iblk, idx]

/-- The codes as a function of the arguments. -/
def codesR (x : Vec F S48x1x8192 .bf16) (g : Vec F S8192 .f32) : Vec F S48x8192 .fp8e4m3 := k0_pay4 (hR x g) (pR (Host.negf (exR x g)))
/-- The scale. -/
def scaleR (x : Vec F S48x1x8192 .bf16) (g : Vec F S8192 .f32) : Vec F S48x1 .f32 := pR (exR x g)
/-- q, with its rotation. -/
def qR (x : Vec F S48x1x8192 .bf16) (g : Vec F S8192 .f32) (p : Vec F S48x1 .i32) (w : Vec F S8192x10240 .fp8e4m3) (s : Vec F S10240 .f32) : Vec F S48x64x128 .bf16 :=
  k0_pay1 (k0_pay11 (hR x g) (pR (Host.negf (exR x g))) w (pR (exR x g)) (shapeCast S1x10240 s shapeCasts_S10240_S1x10240) (Host.cos (angR p))) (k0_pay12 (hR x g) (pR (Host.negf (exR x g))) w (pR (exR x g)) (shapeCast S1x10240 s shapeCasts_S10240_S1x10240) (Host.sin (angR p)))
/-- k, with its rotation. -/
def keysR (x : Vec F S48x1x8192 .bf16) (g : Vec F S8192 .f32) (p : Vec F S48x1 .i32) (w : Vec F S8192x10240 .fp8e4m3) (s : Vec F S10240 .f32) : Vec F S48x8x128 .bf16 :=
  k0_pay2 (k0_pay7 (hR x g) (pR (Host.negf (exR x g))) w (pR (exR x g)) (shapeCast S1x10240 s shapeCasts_S10240_S1x10240)) (k0_pay9 (Host.cos (angR p))) (k0_pay10 (Host.sin (angR p)))
/-- v. -/
def vR (x : Vec F S48x1x8192 .bf16) (g : Vec F S8192 .f32) (w : Vec F S8192x10240 .fp8e4m3) (s : Vec F S10240 .f32) : Vec F S48x8x128 .bf16 :=
  k0_pay3 (k0_pay8 (hR x g) (pR (Host.negf (exR x g))) w (pR (exR x g)) (shapeCast S1x10240 s shapeCasts_S10240_S1x10240))

/-- After the run the codes, -/
theorem final10 (c : Dev nD) : (dats m 0 c).arrAt 10 (cfgs 0).N = codesR (m ((c : Thread nD τ).loc main_arg0)) (m ((c : Thread nD τ).loc main_arg1)) := by
  refine (dats m 0 c).arrAt_eq_of_after_last 10 t0_0 (by decide +kernel) _ fun j => ?_
  blk_simp
  rw [after0_10, blk0, blk1, blk2, blk3, blk4, blk5, blk6, V_h, V_inv, V_scale, V_cos, V_sin, V_ws, V_main_arg3]
  frame_out
  try rfl

/-- q, -/
theorem final7 (c : Dev nD) : (dats m 0 c).arrAt 7 (cfgs 0).N = qR (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_0 (by decide +kernel) _ fun j => ?_
  blk_simp
  rw [after0_7, blk0, blk1, blk2, blk3, blk4, blk5, blk6, V_h, V_inv, V_scale, V_cos, V_sin, V_ws, V_main_arg3]
  frame_out
  try rfl

/-- k -/
theorem final8 (c : Dev nD) : (dats m 0 c).arrAt 8 (cfgs 0).N = keysR (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_0 (by decide +kernel) _ fun j => ?_
  blk_simp
  rw [after0_8, blk0, blk1, blk2, blk3, blk4, blk5, blk6, V_h, V_inv, V_scale, V_cos, V_sin, V_ws, V_main_arg3]
  frame_out
  try rfl

/-- and v are these. -/
theorem final9 (c : Dev nD) : (dats m 0 c).arrAt 9 (cfgs 0).N = vR (m ((c : Thread nD τ).loc main_arg0)) (m ((c : Thread nD τ).loc main_arg1)) (m ((c : Thread nD τ).loc main_arg3)) (m ((c : Thread nD τ).loc main_arg4)) := by
  refine (dats m 0 c).arrAt_eq_of_after_last 9 t0_0 (by decide +kernel) _ fun j => ?_
  blk_simp
  rw [after0_9, blk0, blk1, blk2, blk3, blk4, blk5, blk6, V_h, V_inv, V_scale, V_cos, V_sin, V_ws, V_main_arg3]
  frame_out
  try rfl

/-- The plain program's run: its five results and its arguments. -/
theorem run : θ_run defs (onTc (τ := τ) (main (F := F))) ⟨m, fun _ => 0, ρ⟩ (fun r => ∀ c : Dev nD,
    r.2.mem ((c : Thread nD τ).loc main_v80_0) = qR (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v80_1) = keysR (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v80_2) = vR (m ((c : Thread nD τ).loc main_arg0)) (m ((c : Thread nD τ).loc main_arg1)) (m ((c : Thread nD τ).loc main_arg3)) (m ((c : Thread nD τ).loc main_arg4))
    ∧ r.2.mem ((c : Thread nD τ).loc main_v80_3) = codesR (m ((c : Thread nD τ).loc main_arg0)) (m ((c : Thread nD τ).loc main_arg1))
    ∧ r.2.mem ((c : Thread nD τ).loc main_v48) = scaleR (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  refine (θ_run defs _ _).mono (fun r h c => ?_) (run_main m ρ)
  refine ⟨((h c).1 7).trans (final7 m c), ((h c).1 8).trans (final8 m c), ((h c).1 9).trans (final9 m c), ((h c).1 10).trans (final10 m c),
    ((h c).1 2).trans (((dats m 0 c).arrAt_in 2 rfl _).trans ((A_eq m c 2).trans (V_scale m c))), ?_, ?_, ?_, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).1 5).trans (((dats m 0 c).arrAt_in 5 rfl _).trans ((A_eq m c 5).trans (V_main_arg3 m c)))
  · exact ((h c).2 main_arg4 (Pipeline.mem_restRefs_of main_arg4 (by decide) (by decide))).trans (V_main_arg4 m c)

end Cert.ReferenceIdeal.Host

end
-- ==== Proof.MathNorm.lean ====
/- The normalised activation: what the kernel computes in its buffer is what the plain program computes on the host. -/
module

public import proofs.«01_k».proof.Proof.KernelRuns
public import proofs.«01_k».proof.Proof.RefRun
public import Idealize.ShloMosaic.Lib.Pointwise

@[expose] public section

set_option maxRecDepth 16384

noncomputable section

namespace Cert.Math

open Idealize.ShloMosaic Idealize.ShloMosaic.TcCoe Idealize.ShloMosaic.Tactic
open Cert.KernelIdeal Cert.KernelIdeal.Gen
open Cert.ReferenceIdeal.Host

/-- The activation, one token a row. -/
abbrev X2 (x : FVec Ideal S48x1x8192 .bf16) : FVec Ideal S48x8192 .bf16 := shapeCast S48x8192 x shapeCasts_S48x1x8192_S48x8192
/-- The gain as one row. -/
abbrev G2 (g : FVec Ideal S8192 .f32) : FVec Ideal S1x8192 .f32 := shapeCast S1x8192 g shapeCasts_S8192_S1x8192

/-- The normalised activation is the same. -/
theorem h_eq (x : FVec Ideal S48x1x8192 .bf16) (g : FVec Ideal S8192 .f32) : k0_pay6 (F := Ideal) (X2 x) (G2 g) = hR (F := Ideal) x g := by
  funext j
  idx_vars j
  pointwise! [k0_pay6, hR, xR, varR]

/-- Its largest magnitude is the same. -/
theorem a_eq (x : FVec Ideal S48x1x8192 .bf16) (g : FVec Ideal S8192 .f32) : k0_pay7 (F := Ideal) (X2 x) (G2 g) = aR (hR (F := Ideal) x g) := by
  unfold k0_pay7
  rw [h_eq]
  generalize hR (F := Ideal) x g = h
  funext j
  idx_vars j
  pointwise! [aR]

/-- The largest magnitude over 448 is the same. -/
theorem t_eq (x : FVec Ideal S48x1x8192 .bf16) (g : FVec Ideal S8192 .f32) : k0_pay8 (F := Ideal) (X2 x) (G2 g) = tR (aR (hR (F := Ideal) x g)) := by
  unfold k0_pay8
  rw [a_eq]
  generalize aR (hR (F := Ideal) x g) = a
  funext j
  idx_vars j
  pointwise! [tR]

end Cert.Math

end
-- ==== Proof.KernelBlocks.lean ====
/- What the kernel's blocks hold of its arguments. -/
module

public import proofs.«01_k».proof.Proof.KernelBody
public import proofs.«01_k».proof.Proof.MathNorm
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Cert.KernelIdeal.Body Cert.Math Idealize.SL.Sem
open Idealize.ShloMosaic.Pipeline (Dat)

variable (m : (ℓ : Loc nD τ sig) → Buf (Elt Ideal) ℓ)

theorem V_x (c : Dev nD) : V m c main_v0 = X2 (m ((c : Thread nD τ).loc main_arg0)) := by
  simp only [V, hostOps0, List.flatten_cons, List.flatten_nil, List.append_nil, List.cons_append, List.nil_append, StableHlo.after_cons, StableHlo.after_nil]
  after_results_simp
  after_results_loop
  rfl
theorem V_g (c : Dev nD) : V m c main_v1 = G2 (m ((c : Thread nD τ).loc main_arg1)) := by
  simp only [V, hostOps0, List.flatten_cons, List.flatten_nil, List.append_nil, List.cons_append, List.nil_append, StableHlo.after_cons, StableHlo.after_nil]
  after_results_simp
  after_results_loop
  rfl
theorem V_ws (c : Dev nD) : V m c main_v2 = shapeCast S1x10240 (m ((c : Thread nD τ).loc main_arg4)) shapeCasts_S10240_S1x10240 := by
  simp only [V, hostOps0, List.flatten_cons, List.flatten_nil, List.append_nil, List.cons_append, List.nil_append, StableHlo.after_cons, StableHlo.after_nil]
  after_results_simp
  after_results_loop
  rfl

/-- The windows' block numbers, at every point. -/
theorem idx : ∀ t : Fin cfg0.N, win0_0.index t = ![0, 0] ∧ win0_1.index t = ![0, 0] ∧ win0_2.index t = ![0, 0] ∧ win0_3.index t = ![0, t.val]
    ∧ win0_4.index t = ![0, t.val] ∧ win0_5.index t = ![0, min t.val 7, 0] ∧ win0_6.index t = ![0, 0, 0] ∧ win0_7.index t = ![0, 0, 0]
    ∧ win0_8.index t = ![0, 0] ∧ win0_9.index t = ![0, 0] ∧ t.val < 10 :=
  (by decide +kernel : ∀ t : Fin grid0.N, _)

theorem blk_x (c : Dev nD) (t : Fin cfg0.N) : iblk m c 0 t = X2 (m ((c : Thread nD τ).loc main_arg0)) := by
  refine Eq.trans ?_ (V_x m c)
  blk_ext! [iblk, idx t]
theorem blk_g (c : Dev nD) (t : Fin cfg0.N) : iblk m c 1 t = G2 (m ((c : Thread nD τ).loc main_arg1)) := by
  refine Eq.trans ?_ (V_g m c)
  blk_ext! [iblk, idx t]
theorem blk_p (c : Dev nD) (t : Fin cfg0.N) : iblk m c 2 t = (m ((c : Thread nD τ).loc main_arg2)) := by
  refine Eq.trans ?_ (V_main_arg2 m c)
  blk_ext! [iblk, idx t]
/-- Point `t` holds the `t`-th block of columns of the weight -/
theorem blk_w (c : Dev nD) (t : Fin cfg0.N) (k : Fin 8192) (n : Fin 1024) :
    (show FVec Ideal S8192x1024 .fp8e4m3 from iblk m c 3 t) (ix2 k n) = (m ((c : Thread nD τ).loc main_arg3)) (ix2 k ⟨t.val * 1024 + n.val, by have := (idx t).2.2.2.2.2.2.2.2.2.2; omega⟩) := by
  rw [← V_main_arg3 m c]
  show iblk m c 3 t (ix2 k n) = _
  blk_ext [iblk, idx t]
/-- The scales as one row, read at a column. -/
theorem ws_at (s : FVec Ideal S10240 .f32) (q : Fin 10240) : shapeCast S1x10240 s shapeCasts_S10240_S1x10240 (ix2 0 q) = s (ix1 q) := by
  pointwise
/-- and of its scales. -/
theorem blk_s (c : Dev nD) (t : Fin cfg0.N) (n : Fin 1024) :
    (show FVec Ideal S1x1024 .f32 from iblk m c 4 t) (ix2 0 n) = (m ((c : Thread nD τ).loc main_arg4)) (ix1 ⟨t.val * 1024 + n.val, by have := (idx t).2.2.2.2.2.2.2.2.2.2; omega⟩) := by
  have h : (show FVec Ideal S1x1024 .f32 from iblk m c 4 t) (ix2 0 n) = V m c main_v2 (ix2 0 ⟨t.val * 1024 + n.val, by have := (idx t).2.2.2.2.2.2.2.2.2.2; omega⟩) := by
    show iblk m c 4 t (ix2 0 n) = _
    blk_ext [iblk, idx t]
  rw [h, V_ws]
  exact ws_at _ _

end Cert.KernelIdeal.Value

end
-- ==== Proof.MathPow.lean ====
/- Powers of two: the words the kernel builds them from, and the count of those that do not exceed a number against the
   least exponent whose power exceeds it. -/
module

public import proofs.«01_k».proof.Proof.KernelRuns
public import proofs.«01_k».proof.Proof.RefRun
public import Idealize.ShloMosaic.Lib.Pointwise
public import Idealize.ShloMosaic.Lib.IndicatorCount

@[expose] public section

set_option maxRecDepth 16384

noncomputable section

namespace Cert.Math

open Idealize.ShloMosaic Idealize.ShloMosaic.TcCoe Idealize.ShloMosaic.Tactic
open Cert.KernelIdeal Cert.KernelIdeal.Gen
open Cert.ReferenceIdeal.Host

/-! ## Constants -/

theorem c_two : Ideal.ofBits .f32 0x40000000#32 = ((2 : ℝ) : EReal) := by
  simp [Ideal.ofBits, Ideal.ieee, -EReal.coe_mul]; norm_num
theorem c_127 : Ideal.ofBits .f32 0x42FE0000#32 = ((127 : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num
theorem c_m126 : Ideal.ofBits .f32 0xC2FC0000#32 = ((-126 : ℝ) : EReal) := by
  simp [Ideal.ofBits, Ideal.ieee, -EReal.coe_mul, -EReal.coe_neg]; norm_num
theorem c_m125 : Ideal.ofBits .f32 0xC2FA0000#32 = ((-125 : ℝ) : EReal) := by
  simp [Ideal.ofBits, Ideal.ieee, -EReal.coe_mul, -EReal.coe_neg]; norm_num
theorem c_top : Ideal.ofBits .f32 0x7F800000#32 = ⊤ := by
  simp [Ideal.ofBits, Ideal.ieee]

/-- A small natural's word read as a float. -/
theorem sitofp_nat (n : ℕ) (h : n < 2 ^ 31) : (FloatOps.sitofp .f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat, Nat.mod_eq_of_lt (by omega)]; omega), BitVec.toNat_ofNat, Nat.mod_eq_of_lt (by omega)]
  rw [e]
  norm_cast

/-! ## The words of the powers of two -/

/-- The three fields of a word with exponent field `n` and nothing else. -/
theorem fields : ∀ n : Fin 256, ((BitVec.ofNat 32 (n.val * 8388608)).extractLsb' 31 1 == 1#1) = false
    ∧ ((BitVec.ofNat 32 (n.val * 8388608)).extractLsb' 23 8).toNat = n.val
    ∧ ((BitVec.ofNat 32 (n.val * 8388608)).extractLsb' 0 23).toNat = 0 := by
  decide +kernel

/-- A word with an exponent field and nothing else is a power of two, zero or infinity. -/
theorem bits_pow (n : Fin 256) : Ideal.ofBits .f32 (BitVec.ofNat 32 (n.val * 8388608))
    = if n.val = 0 then 0 else if n.val = 255 then ⊤ else (((2 : ℝ) ^ ((n.val : ℤ) - 127) : ℝ) : EReal) := by
  obtain ⟨h1, h2, h3⟩ := fields n
  show Ideal.ieee 8 23 (BitVec.ofNat 32 (n.val * 8388608)) = _
  unfold Ideal.ieee
  simp only [Nat.reduceAdd, h1, h2, h3]
  by_cases h0 : n.val = 0
  · simp [h0]
  by_cases h255 : n.val = 255
  · simp [h255]
  rw [if_neg (by simpa using h255), if_neg h0, if_neg h0, if_neg h255]
  congr 1
  have e : ((n.val : ℤ) - (2 ^ (8 - 1) - 1) - (23 : ℕ)) = ((n.val : ℤ) - 127) + (-23) := by norm_num; ring
  rw [e, zpow_add₀ (by norm_num : (2 : ℝ) ≠ 0)]
  norm_num
  ring

/-- The least normal power. -/
theorem c_min : Ideal.ofBits .f32 0x00800000#32 = (((2 : ℝ) ^ (-126 : ℤ) : ℝ) : EReal) := by
  have h := bits_pow ⟨1, by omega⟩
  rw [if_neg (by simp), if_neg (by simp)] at h
  refine (show Ideal.ofBits .f32 0x00800000#32 = _ from h).trans ?_
  norm_num

/-- The candidate exponents' words. -/
theorem cand_word : ∀ i : Fin 254, IntOp.shli ArithUnit.vector (IntOp.minsi (255#32) (IntOp.maxsi (0#32)
    (IntOp.addi (IntOp.subi (BitVec.ofNat 32 i.val) 126#32) 127#32))) 23#32 = BitVec.ofNat 32 ((i.val + 1) * 8388608) := by
  decide +kernel

/-- The candidates: `2 ^ (i - 126)`. -/
theorem cand (i : Fin 254) : Ideal.ofBits .f32 (IntOp.shli ArithUnit.vector (IntOp.minsi (255#32) (IntOp.maxsi (0#32)
    (IntOp.addi (IntOp.subi (BitVec.ofNat 32 i.val) 126#32) 127#32))) 23#32) = (((2 : ℝ) ^ ((i.val : ℤ) - 126) : ℝ) : EReal) := by
  rw [cand_word]
  have hi := i.isLt
  rw [show (i.val + 1) = ((⟨i.val + 1, by omega⟩ : Fin 256) : ℕ) from rfl, bits_pow, if_neg (by simp), if_neg (by show ¬ (i.val + 1 = 255); omega)]
  congr 2
  push_cast
  ring

/-- The scale's word for the exponent `e - 128`; that of its negative. -/
theorem pos_word : ∀ e : Fin 257, IntOp.shli ArithUnit.vector (IntOp.minsi (255#32) (IntOp.maxsi (0#32)
    (IntOp.addi (BitVec.ofInt 32 ((e.val : ℤ) - 128)) 127#32))) 23#32 = BitVec.ofNat 32 ((e.val - 1) * 8388608) := by
  decide +kernel
theorem neg_word : ∀ e : Fin 257, IntOp.shli ArithUnit.vector (IntOp.minsi (255#32) (IntOp.maxsi (0#32)
    (IntOp.addi (IntOp.subi (0#32) (BitVec.ofInt 32 ((e.val : ℤ) - 128))) 127#32))) 23#32 = BitVec.ofNat 32 ((255 - e.val) * 8388608) := by
  decide +kernel

/-- `2 ^ k` as the plain program states it: infinity above 127, zero below -126. -/
def pw (k : EReal) : EReal :=
  if Ideal.ofBits FTy.f32 0x42FE0000#32 < k then Ideal.ofBits FTy.f32 0x7F800000#32
  else if k < Ideal.ofBits FTy.f32 0xC2FC0000#32 then 0 else Ideal.pow (Ideal.ofBits FTy.f32 0x40000000#32) k

/-- At an integer it is infinity, zero or the power. -/
theorem pw_int (k : ℤ) : pw ((k : ℝ) : EReal) = if 127 < k then ⊤ else if k < -126 then 0 else (((2 : ℝ) ^ k : ℝ) : EReal) := by
  unfold pw
  rw [c_127, c_top, c_m126, c_two, Ideal.pow_coe_coe]
  have h1 : ((127 : ℝ) : EReal) < ((k : ℝ) : EReal) ↔ 127 < k := by rw [EReal.coe_lt_coe_iff]; norm_cast
  have h2 : ((k : ℝ) : EReal) < ((-126 : ℝ) : EReal) ↔ k < -126 := by rw [EReal.coe_lt_coe_iff]; norm_cast
  simp only [h1, h2]
  congr 2
  exact congrArg _ (Real.rpow_intCast 2 k)

/-- The kernel's scale is that power, -/
theorem pos_pow (e : Fin 257) : Ideal.ofBits .f32 (IntOp.shli ArithUnit.vector (IntOp.minsi (255#32) (IntOp.maxsi (0#32)
    (IntOp.addi (BitVec.ofInt 32 ((e.val : ℤ) - 128)) 127#32))) 23#32) = pw (((((e.val : ℤ) - 128 : ℤ) : ℝ)) : EReal) := by
  have he := e.isLt
  rw [pos_word, pw_int, show (e.val - 1) = ((⟨e.val - 1, by omega⟩ : Fin 256) : ℕ) from rfl, bits_pow]
  dsimp only
  by_cases h0 : e.val - 1 = 0
  · rw [if_pos h0, if_neg (by omega), if_pos (by omega)]
  by_cases h1 : e.val - 1 = 255
  · rw [if_neg h0, if_pos h1, if_pos (by omega)]
  rw [if_neg h0, if_neg h1, if_neg (by omega), if_neg (by omega)]
  congr 2
  omega

/-- and so is its inverse, of the negative exponent. -/
theorem neg_pow (e : Fin 257) : Ideal.ofBits .f32 (IntOp.shli ArithUnit.vector (IntOp.minsi (255#32) (IntOp.maxsi (0#32)
    (IntOp.addi (IntOp.subi (0#32) (BitVec.ofInt 32 ((e.val : ℤ) - 128))) 127#32))) 23#32) = pw (-(((((e.val : ℤ) - 128 : ℤ) : ℝ)) : EReal)) := by
  have he := e.isLt
  rw [neg_word, ← EReal.coe_neg, ← Int.cast_neg, pw_int, show (255 - e.val) = ((⟨255 - e.val, by omega⟩ : Fin 256) : ℕ) from rfl, bits_pow]
  dsimp only
  by_cases h0 : 255 - e.val = 0
  · rw [if_pos h0, if_neg (by omega), if_pos (by omega)]
  by_cases h1 : 255 - e.val = 255
  · rw [if_neg h0, if_pos h1, if_pos (by omega)]
  rw [if_neg h0, if_neg h1, if_neg (by omega), if_neg (by omega)]
  congr 2
  omega

/-! ## Counting the powers that do not exceed `t` -/

/-- The candidates that do not exceed `t`. -/
def below (t : EReal) : Finset (Fin 254) := Finset.univ.filter fun i => (((2 : ℝ) ^ ((i.val : ℤ) - 126) : ℝ) : EReal) ≤ t

theorem below_card_le (t : EReal) : (below t).card ≤ 254 := (Finset.card_le_univ _).trans (by simp)

/-- They are the first ones: a candidate does not exceed `t` when its number is below their count. -/
theorem le_iff (t : EReal) (i : Fin 254) : (((2 : ℝ) ^ ((i.val : ℤ) - 126) : ℝ) : EReal) ≤ t ↔ i.val < (below t).card := by
  have mono : ∀ a b : Fin 254, a ≤ b → (((2 : ℝ) ^ ((a.val : ℤ) - 126) : ℝ) : EReal) ≤ (((2 : ℝ) ^ ((b.val : ℤ) - 126) : ℝ) : EReal) := fun a b h => by
    rw [EReal.coe_le_coe_iff]
    exact zpow_le_zpow_right₀ (by norm_num) (by have : a.val ≤ b.val := h; omega)
  constructor
  · intro h
    have hs : Finset.Iic i ⊆ below t := fun a ha => Finset.mem_filter.2 ⟨Finset.mem_univ _, (mono a i (Finset.mem_Iic.1 ha)).trans h⟩
    have := Finset.card_le_card hs
    rw [Fin.card_Iic] at this
    omega
  · intro h
    by_contra hn
    have hs : below t ⊆ Finset.Iio i := fun a ha => Finset.mem_Iio.2 (by
      by_contra hia
      exact hn ((mono i a (not_lt.1 hia)).trans (Finset.mem_filter.1 ha).2))
    have := Finset.card_le_card hs
    rw [Fin.card_Iio] at this
    omega

/-- `t` is below the least candidate exactly when none is counted. -/
theorem lt_min_iff (t : EReal) : t < (((2 : ℝ) ^ (-126 : ℤ) : ℝ) : EReal) ↔ (below t).card = 0 := by
  have h := le_iff t ⟨0, by omega⟩
  have e : ((((⟨0, by omega⟩ : Fin 254)).val : ℤ) - 126) = -126 := by norm_num
  rw [e] at h
  rw [← not_le, h]
  omega

/-- The least `k` from -125 to 127 with `t < 2 ^ k`, 128 where there is none, is the count less 126, where the count is not 0. -/
theorem min_eq (t : EReal) (h1 : 1 ≤ (below t).card) :
    Finset.fold min (⊤ : EReal) (fun x : Fin 253 =>
      if t < (((2 : ℝ) ^ ((x.val : ℤ) - 125) : ℝ) : EReal) then ((((x.val : ℤ) - 125 : ℤ) : ℝ) : EReal) else ((128 : ℝ) : EReal)) Finset.univ
    = (((((below t).card : ℤ) - 126 : ℤ) : ℝ) : EReal) := by
  have hc := below_card_le t
  have key : ∀ x : Fin 253, t < (((2 : ℝ) ^ ((x.val : ℤ) - 125) : ℝ) : EReal) ↔ (below t).card ≤ x.val + 1 := fun x => by
    have hx := x.isLt
    have h := le_iff t ⟨x.val + 1, by omega⟩
    have e : ((((⟨x.val + 1, by omega⟩ : Fin 254)).val : ℤ) - 126) = (x.val : ℤ) - 125 := by push_cast; ring
    rw [e] at h
    rw [← not_le, h]
    show ¬ (x.val + 1 < _) ↔ _
    omega
  simp only [key]
  have e128 : ((128 : ℝ) : EReal) = (((128 : ℤ) : ℝ) : EReal) := by norm_num
  have le_int : ∀ a b : ℤ, a ≤ b → ((a : ℝ) : EReal) ≤ ((b : ℝ) : EReal) := fun a b h => EReal.coe_le_coe_iff.2 (by exact_mod_cast h)
  rw [e128]
  apply le_antisymm
  · rw [Finset.fold_min_le]
    right
    by_cases hlt : (below t).card ≤ 253
    · refine ⟨⟨(below t).card - 1, by omega⟩, Finset.mem_univ _, ?_⟩
      rw [if_pos (by show _ ≤ (below t).card - 1 + 1; omega)]
      refine le_int _ _ ?_
      show (((below t).card - 1 : ℕ) : ℤ) - 125 ≤ _
      omega
    · refine ⟨⟨0, by omega⟩, Finset.mem_univ _, ?_⟩
      rw [if_neg (by show ¬ (_ ≤ 0 + 1); omega)]
      exact le_int _ _ (by omega)
  · rw [Finset.le_fold_min]
    refine ⟨le_top, fun x _ => ?_⟩
    split_ifs with h
    · exact le_int _ _ (by omega)
    · exact le_int _ _ (by omega)

end Cert.Math

end
-- ==== Proof.MathScale.lean ====
/- The quantiser: the kernel's exponent, scale and codes are the plain program's. -/
module

public import proofs.«01_k».proof.Proof.MathNorm
public import proofs.«01_k».proof.Proof.MathPow

@[expose] public section

set_option maxRecDepth 16384

noncomputable section

namespace Cert.Math

open Idealize.ShloMosaic Idealize.ShloMosaic.TcCoe Idealize.ShloMosaic.Tactic
open Cert.KernelIdeal Cert.KernelIdeal.Gen
open Cert.ReferenceIdeal.Host

/-- The count the kernel takes is that of the candidates that do not exceed the row's `t`. -/
theorem count_eq (x : FVec Ideal S48x8192 .bf16) (g : FVec Ideal S1x8192 .f32) (r : Fin 48) :
    k0_pay9 (F := Ideal) x g (ix2 r 0) = BitVec.ofNat 32 (below (k0_pay8 (F := Ideal) x g (ix2 r 0))).card := by
  unfold k0_pay9
  generalize k0_pay8 (F := Ideal) x g = t
  pointwise
  simp only [cand]
  rw [IndicatorCount.fold_addi_setWidth_eq_card]
  unfold below
  congr 2
  ext i
  by_cases h : (((2 : ℝ) ^ ((i.val : ℤ) - 126) : ℝ) : EReal) ≤ t (ix2 r 0) <;> simp [h]

/-- One-bit words of truth values. -/
theorem andi_bool (p q : Bool) : IntOp.andi (BitVec.ofBool p) (BitVec.ofBool q) = BitVec.ofBool (p && q) := by cases p <;> cases q <;> rfl
theorem select_bool {α : Type} (p : Bool) (x y : α) : Scalar.select (BitVec.ofBool p) x y = bif p then x else y := by cases p <;> rfl

/-- The words of the count. -/
theorem count_words : ∀ c : Fin 255, (IntOp.cmpi CmpIPredicate.sgt (BitVec.ofNat 32 c.val) 0#32 = BitVec.ofBool (decide (1 ≤ c.val)))
    ∧ IntOp.subi (BitVec.ofNat 32 c.val) 126#32 = BitVec.ofInt 32 (((c.val + 2 : ℕ) : ℤ) - 128) := by
  decide +kernel

/-- The exponent of a row: the kernel's word and the plain program's number are the same integer, between -128 and 128. -/
theorem exponent (x : FVec Ideal S48x8192 .bf16) (g : FVec Ideal S1x8192 .f32) (r : Fin 48) :
    ∃ e : Fin 257, k0_pay12 (F := Ideal) (k0_pay7 (F := Ideal) x g) (k0_pay8 (F := Ideal) x g) (k0_pay9 (F := Ideal) x g) (k0_pay10 (F := Ideal) x g) k0_pay11 (ix2 r 0) = BitVec.ofInt 32 ((e.val : ℤ) - 128)
      ∧ eR (F := Ideal) (k0_pay7 (F := Ideal) x g) (k0_pay8 (F := Ideal) x g) (ix2 r 0) = (((((e.val : ℤ) - 128 : ℤ) : ℝ)) : EReal) := by
  have hc := count_eq x g r
  have h10 : k0_pay10 (F := Ideal) x g (ix2 r 0) = IntOp.cmpi CmpIPredicate.sgt (BitVec.ofNat 32 (below (k0_pay8 (F := Ideal) x g (ix2 r 0))).card) 0#32 := by
    rw [← hc]; rfl
  have hle := below_card_le (k0_pay8 (F := Ideal) x g (ix2 r 0))
  have hlt := lt_min_iff (k0_pay8 (F := Ideal) x g (ix2 r 0))
  have hmin := min_eq (k0_pay8 (F := Ideal) x g (ix2 r 0))
  generalize k0_pay9 (F := Ideal) x g = n at *
  generalize k0_pay10 (F := Ideal) x g = b at *
  generalize k0_pay7 (F := Ideal) x g = a at *
  generalize k0_pay8 (F := Ideal) x g = t at *
  have hw := count_words ⟨(below (t (ix2 r 0))).card, by omega⟩
  dsimp only at hw
  pointwise [k0_pay12, k0_pay11, eR, minR, kR]
  have e0 : (0#32 = BitVec.ofInt 32 (((⟨128, by omega⟩ : Fin 257).val : ℤ) - 128)) ∧ (0 : EReal) = ((((((⟨128, by omega⟩ : Fin 257).val : ℤ) - 128 : ℤ) : ℝ)) : EReal) :=
    ⟨rfl, by norm_num⟩
  by_cases ha : a (ix2 r 0) = 0
  · exact ⟨⟨128, by omega⟩, by rw [if_pos ha]; exact e0.1, by rw [if_pos ha]; exact e0.2⟩
  simp only [if_neg ha, hc, h10, hw.1, hw.2, c_top, c_min, c_two, c_m125, c_128, andi_bool, select_bool]
  by_cases ht : t (ix2 r 0) = ⊤
  · refine ⟨⟨128, by omega⟩, ?_, ?_⟩
    · rw [← e0.1, decide_eq_false (show ¬ t (ix2 r 0) < ⊤ from ht ▸ lt_irrefl _), Bool.and_false]; rfl
    · rw [← e0.2, decide_eq_false (show ¬ t (ix2 r 0) < ⊤ from ht ▸ lt_irrefl _), Bool.and_false]; rfl
  by_cases h0 : (below (t (ix2 r 0))).card = 0
  · refine ⟨⟨128, by omega⟩, ?_, ?_⟩
    · rw [← e0.1, decide_eq_false (show ¬ 1 ≤ (below (t (ix2 r 0))).card by omega), Bool.false_and]; rfl
    · rw [← e0.2, decide_eq_false (not_le.2 (hlt.2 h0)), Bool.false_and]; rfl
  · have h1 : 1 ≤ (below (t (ix2 r 0))).card := by omega
    refine ⟨⟨(below (t (ix2 r 0))).card + 2, by omega⟩, ?_, ?_⟩
    · rw [decide_eq_true h1, decide_eq_true (lt_top_iff_ne_top.2 ht)]; rfl
    · rw [decide_eq_true (not_lt.1 (mt hlt.1 h0)), decide_eq_true (lt_top_iff_ne_top.2 ht)]
      refine (?_ : _ = _).trans ((hmin h1).trans ?_)
      · show Finset.fold min _ _ _ = _
        refine congrArg (fun f => Finset.fold min (⊤ : EReal) f Finset.univ) (funext fun k => ?_)
        have hk := k.isLt
        have ek : ((-125 : ℝ) : EReal) + (FloatOps.sitofp FTy.f32 (BitVec.ofNat 32 k.val) : Ideal .f32) = ((((k.val : ℤ) - 125 : ℤ) : ℝ) : EReal) := by
          rw [sitofp_nat _ (by omega), ← EReal.coe_add]
          congr 1
          push_cast
          ring
        rw [ek, Ideal.pow_coe_coe]
        have ep : Real.rpow 2 (((k.val : ℤ) - 125 : ℤ) : ℝ) = (2 : ℝ) ^ ((k.val : ℤ) - 125) := Real.rpow_intCast 2 _
        rw [ep]
      · congr 2
        push_cast
        ring

/-- The scale is the same. -/
theorem scale_eq (x : FVec Ideal S48x1x8192 .bf16) (g : FVec Ideal S8192 .f32) : Body.scale (F := Ideal) (X2 x) (G2 g) = scaleR (F := Ideal) x g := by
  funext j
  idx_vars j
  obtain rfl : j1 = 0 := Subsingleton.elim _ _
  obtain ⟨e, h1, h2⟩ := exponent (X2 x) (G2 g) j0
  rw [t_eq, a_eq] at h2
  pointwise [k0_pay13, scaleR, pR, exR]
  rw [h1, h2]
  exact pos_pow e

/-- The codes are the same. -/
theorem codes_eq (x : FVec Ideal S48x1x8192 .bf16) (g : FVec Ideal S8192 .f32) : Body.codes (F := Ideal) (X2 x) (G2 g) = codesR (F := Ideal) x g := by
  unfold codesR Body.codes
  funext j
  idx_vars j
  obtain ⟨e, h1, h2⟩ := exponent (X2 x) (G2 g) j0
  rw [t_eq, a_eq] at h2
  rw [← h_eq]
  rw [← h_eq] at h2
  have h3 : pR (F := Ideal) (Host.negf (eR (aR (k0_pay6 (F := Ideal) (X2 x) (G2 g))) (tR (aR (k0_pay6 (F := Ideal) (X2 x) (G2 g)))))) (ix2 j0 0) = pw (-(((((e.val : ℤ) - 128 : ℤ) : ℝ)) : EReal)) := by
    rw [← h2]
    pointwise [pR]
    rfl
  generalize hp : k0_pay12 (F := Ideal) (k0_pay7 (F := Ideal) (X2 x) (G2 g)) (k0_pay8 (F := Ideal) (X2 x) (G2 g)) (k0_pay9 (F := Ideal) (X2 x) (G2 g)) (k0_pay10 (F := Ideal) (X2 x) (G2 g)) k0_pay11 = w at h1
  unfold exR
  rw [← h_eq]
  generalize pR (F := Ideal) (Host.negf (eR (aR (k0_pay6 (F := Ideal) (X2 x) (G2 g))) (tR (aR (k0_pay6 (F := Ideal) (X2 x) (G2 g)))))) = q at h3 ⊢
  generalize k0_pay6 (F := Ideal) (X2 x) (G2 g) = h
  unfold k0_pay14
  rw [hp]
  pointwise [Cert.ReferenceIdeal.Gen.k0_pay4]
  rw [h1, h3, neg_pow]

end Cert.Math

end
-- ==== Proof.MathTables.lean ====
/- The rotation tables: the kernel computes the angle of every lane, the plain program those of the first half, twice. -/
module

public import proofs.«01_k».proof.Proof.MathNorm
public import proofs.«01_k».proof.Proof.MathPow

@[expose] public section

set_option maxRecDepth 16384

noncomputable section

namespace Cert.Math

open Idealize.ShloMosaic Idealize.ShloMosaic.TcCoe Idealize.ShloMosaic.Tactic
open Cert.KernelIdeal Cert.KernelIdeal.Gen
open Cert.ReferenceIdeal.Host

/-- Twice a lane's number within its half, as the kernel computes it. -/
theorem lane_word : ∀ l : Fin 128, IntOp.muli
    (Scalar.select
      (IntOp.andi
        (IntOp.xori
          (IntOp.cmpi CmpIPredicate.slt (IntOp.remsi ArithUnit.vector (BitVec.ofNat 32 l.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 l.val) (Scalar.select (Scalar.cmpi CmpIPredicate.eq 64#32 0#32) 1#32 64#32)) 0#32))
      (IntOp.addi (IntOp.remsi ArithUnit.vector (BitVec.ofNat 32 l.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val) (Scalar.select (Scalar.cmpi CmpIPredicate.eq 64#32 0#32) 1#32 64#32)))
    2#32 = BitVec.ofNat 32 (2 * (l.val % 64)) := by
  decide +kernel

/-- Twice a natural number, in the words and in the numbers. -/
theorem twice (n : ℕ) (h : n < 64) : (FloatOps.sitofp FTy.f32 (BitVec.ofNat 32 (2 * n)) : Ideal .f32)
    = Ideal.ofBits FTy.f32 1073741824#32 * (FloatOps.sitofp FTy.f32 (BitVec.ofNat 32 n) : Ideal .f32) := by
  rw [sitofp_nat _ (by omega), sitofp_nat _ (by omega), c_two, ← EReal.coe_mul]
  congr 1
  push_cast
  ring

/-- The angles are the same. -/
theorem ang_eq (p : Vec Ideal S48x1 .i32) : k0_pay15 (F := Ideal) p = angR (F := Ideal) p := by
  funext j
  idx_vars j
  pointwise [k0_pay15, angR, ang0R, freqR]
  rw [lane_word]
  have hl := j1.isLt
  split_ifs with h
  · rw [twice _ (by omega), Nat.mod_eq_of_lt h]
  · rw [twice _ (by omega), show j1.val % 64 = j1.val - 64 by omega]

/-- The cosines are the same. -/
theorem cos_eq (p : Vec Ideal S48x1 .i32) : Body.cosT (F := Ideal) p = Host.cos (angR (F := Ideal) p) := by
  funext j
  idx_vars j
  pointwise [k0_pay17]
  rw [ang_eq]

/-- The kernel's sines are negated in the first half of the lanes. -/
theorem sin_eq (p : Vec Ideal S48x1 .i32) (r : Fin 48) (l : Fin 128) : Body.sinT (F := Ideal) p (ix2 r l)
    = if l.val < 64 then -(Host.sin (angR (F := Ideal) p) (ix2 r l)) else Host.sin (angR (F := Ideal) p) (ix2 r l) := by
  have hw : ∀ l : Fin 128, IntOp.cmpi CmpIPredicate.slt (BitVec.ofNat 32 l.val) 64#32 = if l.val < 64 then 1#1 else 0#1 := by decide +kernel
  pointwise [k0_pay1, k0_pay16]
  rw [ang_eq, hw]
  split_ifs with h
  · simp [Scalar.select]
  · simp [Scalar.select]

end Cert.Math

end
-- ==== Proof.MathProj.lean ====
/- One block of the kernel's projection is a block of columns of the plain program's, and the rotation of its heads the same. -/
module

public import proofs.«01_k».proof.Proof.MathNorm
public import proofs.«01_k».proof.Proof.MathPow
public import Idealize.ShloMosaic.Lib.Pipeline.ValueKit

@[expose] public section

set_option maxRecDepth 16384

noncomputable section

namespace Cert.Math

open Idealize.ShloMosaic Idealize.ShloMosaic.TcCoe Idealize.ShloMosaic.Tactic
open Cert.KernelIdeal Cert.KernelIdeal.Gen
open Cert.ReferenceIdeal.Host

/-- What the kernel computes of a block of columns, before the rotation, is the block of the plain program's. -/
theorem proj_at (h : FVec Ideal S48x8192 .f32) (i : FVec Ideal S48x1 .f32) (sc : FVec Ideal S48x1 .f32)
    (W : FVec Ideal S8192x10240 .fp8e4m3) (ws : FVec Ideal Cert.ReferenceIdeal.S1x10240 .f32) (B : FVec Ideal S8192x1024 .fp8e4m3) (wb : FVec Ideal S1x1024 .f32)
    (T : ℕ) (hT : T < 10)
    (hB : ∀ (k : Fin 8192) (n : Fin 1024), B (ix2 k n) = W (ix2 k ⟨T * 1024 + n.val, by omega⟩))
    (hw : ∀ n : Fin 1024, wb (ix2 0 n) = ws (ix2 0 ⟨T * 1024 + n.val, by omega⟩)) (r : Fin 48) (n : Fin 1024) :
    k0_pay2 (F := Ideal) (Cert.ReferenceIdeal.Gen.k0_pay4 (F := Ideal) h i) B sc wb (ix2 r n)
      = Cert.ReferenceIdeal.Gen.k0_pay5 (F := Ideal) h i W sc ws (ix2 r ⟨T * 1024 + n.val, by omega⟩) := by
  unfold k0_pay2 Cert.ReferenceIdeal.Gen.k0_pay5
  generalize Cert.ReferenceIdeal.Gen.k0_pay4 (F := Ideal) h i = C
  pointwise
  simp only [hB, hw]

/-- The kernel's rotation of the heads of q, -/
theorem ropeq_at (C : FVec Ideal S48x8192 .fp8e4m3) (B : FVec Ideal S8192x1024 .fp8e4m3) (sc : FVec Ideal S48x1 .f32) (wb : FVec Ideal S1x1024 .f32)
    (c s : FVec Ideal S48x128 .f32) (r : Fin 48) (h : Fin 8) (l : Fin 128) :
    k0_pay3 (F := Ideal) C B sc wb c s (ix3 r h l)
      = k0_pay2 (F := Ideal) C B sc wb (ix2 r ⟨h.val * 128 + l.val, by omega⟩) * c (ix2 r l)
        + k0_pay2 (F := Ideal) C B sc wb (ix2 r ⟨h.val * 128 + (l.val + 64) % 128, by omega⟩) * s (ix2 r l) := by
  unfold k0_pay3
  generalize k0_pay2 (F := Ideal) C B sc wb = Y
  pointwise
  fin_vals h with hh
  all_goals simp only [hh]
  all_goals blk_point []

/-- and of k. -/
theorem ropek_at (C : FVec Ideal S48x8192 .fp8e4m3) (B : FVec Ideal S8192x1024 .fp8e4m3) (sc : FVec Ideal S48x1 .f32) (wb : FVec Ideal S1x1024 .f32)
    (c s : FVec Ideal S48x128 .f32) : k0_pay4 (F := Ideal) C B sc wb c s = k0_pay3 C B sc wb c s := rfl

/-- v has none. -/
theorem v_at (C : FVec Ideal S48x8192 .fp8e4m3) (B : FVec Ideal S8192x1024 .fp8e4m3) (sc : FVec Ideal S48x1 .f32) (wb : FVec Ideal S1x1024 .f32)
    (r : Fin 48) (h : Fin 8) (l : Fin 128) :
    k0_pay5 (F := Ideal) C B sc wb (ix3 r h l) = k0_pay2 (F := Ideal) C B sc wb (ix2 r ⟨h.val * 128 + l.val, by omega⟩) := by
  unfold k0_pay5
  generalize k0_pay2 (F := Ideal) C B sc wb = Y
  pointwise

end Cert.Math

end
-- ==== Proof.MathRope.lean ====
/- The plain program's rotation of the heads, read at an index. -/
module

public import proofs.«01_k».proof.Proof.MathNorm
public import proofs.«01_k».proof.Proof.MathPow
public import Idealize.ShloMosaic.Lib.Pipeline.ValueKit

@[expose] public section

set_option maxRecDepth 16384

noncomputable section

namespace Cert.Math

open Idealize.ShloMosaic Idealize.ShloMosaic.TcCoe Idealize.ShloMosaic.Tactic
open Cert.KernelIdeal Cert.KernelIdeal.Gen
open Cert.ReferenceIdeal.Host

variable (h : FVec Ideal S48x8192 .f32) (i sc : FVec Ideal S48x1 .f32) (W : FVec Ideal S8192x10240 .fp8e4m3) (ws : FVec Ideal Cert.ReferenceIdeal.S1x10240 .f32)
  (c s : FVec Ideal S48x128 .f32)

/-- The plain program's rotation of the heads of q, -/
theorem ropeqR_at (r : Fin 48) (d : Fin 64) (l : Fin 128) :
    Cert.ReferenceIdeal.Gen.k0_pay1 (F := Ideal) (Cert.ReferenceIdeal.Gen.k0_pay11 (F := Ideal) h i W sc ws c) (Cert.ReferenceIdeal.Gen.k0_pay12 (F := Ideal) h i W sc ws s) (ix3 r d l)
      = Cert.ReferenceIdeal.Gen.k0_pay5 (F := Ideal) h i W sc ws (ix2 r ⟨d.val * 128 + l.val, by omega⟩) * c (ix2 r l)
        + (if l.val < 64 then -Cert.ReferenceIdeal.Gen.k0_pay5 (F := Ideal) h i W sc ws (ix2 r ⟨d.val * 128 + (l.val + 64) % 128, by omega⟩)
            else Cert.ReferenceIdeal.Gen.k0_pay5 (F := Ideal) h i W sc ws (ix2 r ⟨d.val * 128 + (l.val + 64) % 128, by omega⟩)) * s (ix2 r l) := by
  unfold Cert.ReferenceIdeal.Gen.k0_pay1 Cert.ReferenceIdeal.Gen.k0_pay11 Cert.ReferenceIdeal.Gen.k0_pay12 Cert.ReferenceIdeal.Gen.k0_pay6 Cert.ReferenceIdeal.Gen.k0_pay9 Cert.ReferenceIdeal.Gen.k0_pay10
  generalize Cert.ReferenceIdeal.Gen.k0_pay5 (F := Ideal) h i W sc ws = Y
  pointwise
  by_cases hl : l.val < 64
  · rw [dif_pos hl, if_pos hl]
    simp only [zero_sub, show 64 + l.val = (l.val + 64) % 128 by omega]
  · rw [dif_neg hl, if_neg hl]
    simp only [show l.val - 64 = (l.val + 64) % 128 by omega]

/-- of k, -/
theorem ropekR_at (r : Fin 48) (d : Fin 8) (l : Fin 128) :
    Cert.ReferenceIdeal.Gen.k0_pay2 (F := Ideal) (Cert.ReferenceIdeal.Gen.k0_pay7 (F := Ideal) h i W sc ws) (Cert.ReferenceIdeal.Gen.k0_pay9 (F := Ideal) c) (Cert.ReferenceIdeal.Gen.k0_pay10 (F := Ideal) s) (ix3 r d l)
      = Cert.ReferenceIdeal.Gen.k0_pay5 (F := Ideal) h i W sc ws (ix2 r ⟨8192 + (d.val * 128 + l.val), by omega⟩) * c (ix2 r l)
        + (if l.val < 64 then -Cert.ReferenceIdeal.Gen.k0_pay5 (F := Ideal) h i W sc ws (ix2 r ⟨8192 + (d.val * 128 + (l.val + 64) % 128), by omega⟩)
            else Cert.ReferenceIdeal.Gen.k0_pay5 (F := Ideal) h i W sc ws (ix2 r ⟨8192 + (d.val * 128 + (l.val + 64) % 128), by omega⟩)) * s (ix2 r l) := by
  unfold Cert.ReferenceIdeal.Gen.k0_pay2 Cert.ReferenceIdeal.Gen.k0_pay7 Cert.ReferenceIdeal.Gen.k0_pay9 Cert.ReferenceIdeal.Gen.k0_pay10
  generalize Cert.ReferenceIdeal.Gen.k0_pay5 (F := Ideal) h i W sc ws = Y
  pointwise
  by_cases hl : l.val < 64
  · rw [dif_pos hl, if_pos hl]
    simp only [zero_sub, show 64 + l.val = (l.val + 64) % 128 by omega]
  · rw [dif_neg hl, if_neg hl]
    simp only [show l.val - 64 = (l.val + 64) % 128 by omega]

/-- and v, which has none. -/
theorem vR_at (r : Fin 48) (d : Fin 8) (l : Fin 128) :
    Cert.ReferenceIdeal.Gen.k0_pay3 (F := Ideal) (Cert.ReferenceIdeal.Gen.k0_pay8 (F := Ideal) h i W sc ws) (ix3 r d l)
      = Cert.ReferenceIdeal.Gen.k0_pay5 (F := Ideal) h i W sc ws (ix2 r ⟨9216 + (d.val * 128 + l.val), by omega⟩) := by
  unfold Cert.ReferenceIdeal.Gen.k0_pay3 Cert.ReferenceIdeal.Gen.k0_pay8
  generalize Cert.ReferenceIdeal.Gen.k0_pay5 (F := Ideal) h i W sc ws = Y
  pointwise

end Cert.Math

end
-- ==== Proof.MathBlocks.lean ====
/- The kernel's blocks of q, k and v are blocks of the plain program's. -/
module

public import proofs.«01_k».proof.Proof.MathScale
public import proofs.«01_k».proof.Proof.MathTables
public import proofs.«01_k».proof.Proof.MathProj
public import proofs.«01_k».proof.Proof.MathRope

@[expose] public section

set_option maxRecDepth 16384

noncomputable section

namespace Cert.Math

open Idealize.ShloMosaic Idealize.ShloMosaic.TcCoe Idealize.ShloMosaic.Tactic
open Cert.KernelIdeal Cert.KernelIdeal.Gen
open Cert.ReferenceIdeal.Host

variable (x : FVec Ideal S48x1x8192 .bf16) (g : FVec Ideal S8192 .f32) (p : Vec Ideal S48x1 .i32) (W : FVec Ideal S8192x10240 .fp8e4m3) (s : FVec Ideal S10240 .f32)
  (B : FVec Ideal S8192x1024 .fp8e4m3) (wb : FVec Ideal S1x1024 .f32)

/-- The columns of block `T`, before the rotation. -/
theorem proj (T : ℕ) (hT : T < 10)
    (hB : ∀ (k : Fin 8192) (n : Fin 1024), B (ix2 k n) = W (ix2 k ⟨T * 1024 + n.val, by omega⟩))
    (hw : ∀ n : Fin 1024, wb (ix2 0 n) = s (ix1 ⟨T * 1024 + n.val, by omega⟩)) (r : Fin 48) (n : Fin 1024) :
    k0_pay2 (F := Ideal) (Body.codes (F := Ideal) (X2 x) (G2 g)) B (Body.scale (F := Ideal) (X2 x) (G2 g)) wb (ix2 r n)
      = Cert.ReferenceIdeal.Gen.k0_pay5 (F := Ideal) (hR (F := Ideal) x g) (pR (F := Ideal) (Host.negf (exR (F := Ideal) x g))) W (pR (F := Ideal) (exR (F := Ideal) x g))
          (shapeCast Cert.ReferenceIdeal.S1x10240 s Cert.ReferenceIdeal.Gen.shapeCasts_S10240_S1x10240) (ix2 r ⟨T * 1024 + n.val, by omega⟩) := by
  rw [codes_eq, scale_eq]
  unfold codesR scaleR
  refine proj_at _ _ _ W _ B wb T hT hB (fun n => (hw n).trans ?_) r n
  pointwise

/-- A block of q: eight heads. -/
theorem q_block (T : ℕ) (hT : T < 8)
    (hB : ∀ (k : Fin 8192) (n : Fin 1024), B (ix2 k n) = W (ix2 k ⟨T * 1024 + n.val, by omega⟩))
    (hw : ∀ n : Fin 1024, wb (ix2 0 n) = s (ix1 ⟨T * 1024 + n.val, by omega⟩)) (r : Fin 48) (h : Fin 8) (l : Fin 128) :
    k0_pay3 (F := Ideal) (Body.codes (F := Ideal) (X2 x) (G2 g)) B (Body.scale (F := Ideal) (X2 x) (G2 g)) wb (Body.cosT (F := Ideal) p) (Body.sinT (F := Ideal) p) (ix3 r h l)
      = qR (F := Ideal) x g p W s (ix3 r ⟨T * 8 + h.val, by omega⟩ l) := by
  unfold qR
  refine (ropeq_at _ B _ wb _ _ r h l).trans (Eq.trans ?_ (ropeqR_at _ _ _ W _ _ _ r ⟨T * 8 + h.val, by omega⟩ l).symm)
  rw [proj x g W s B wb T (by omega) hB hw, proj x g W s B wb T (by omega) hB hw, cos_eq, sin_eq]
  have e1 : T * 1024 + (h.val * 128 + l.val) = (T * 8 + h.val) * 128 + l.val := by ring
  have e2 : T * 1024 + (h.val * 128 + (l.val + 64) % 128) = (T * 8 + h.val) * 128 + (l.val + 64) % 128 := by ring
  simp only [e1, e2]
  split_ifs
  · rw [mul_neg, neg_mul]
  · rfl

/-- The block of k. -/
theorem k_block
    (hB : ∀ (k : Fin 8192) (n : Fin 1024), B (ix2 k n) = W (ix2 k ⟨8 * 1024 + n.val, by omega⟩))
    (hw : ∀ n : Fin 1024, wb (ix2 0 n) = s (ix1 ⟨8 * 1024 + n.val, by omega⟩)) (r : Fin 48) (h : Fin 8) (l : Fin 128) :
    k0_pay4 (F := Ideal) (Body.codes (F := Ideal) (X2 x) (G2 g)) B (Body.scale (F := Ideal) (X2 x) (G2 g)) wb (Body.cosT (F := Ideal) p) (Body.sinT (F := Ideal) p) (ix3 r h l)
      = keysR (F := Ideal) x g p W s (ix3 r h l) := by
  unfold keysR
  rw [ropek_at]
  refine (ropeq_at _ B _ wb _ _ r h l).trans (Eq.trans ?_ (ropekR_at _ _ _ W _ _ _ r h l).symm)
  rw [proj x g W s B wb 8 (by omega) hB hw, proj x g W s B wb 8 (by omega) hB hw, cos_eq, sin_eq]
  simp only [Nat.reduceMul]
  split_ifs
  · rw [mul_neg, neg_mul]
  · rfl

/-- The block of v. -/
theorem v_block
    (hB : ∀ (k : Fin 8192) (n : Fin 1024), B (ix2 k n) = W (ix2 k ⟨9 * 1024 + n.val, by omega⟩))
    (hw : ∀ n : Fin 1024, wb (ix2 0 n) = s (ix1 ⟨9 * 1024 + n.val, by omega⟩)) (r : Fin 48) (h : Fin 8) (l : Fin 128) :
    k0_pay5 (F := Ideal) (Body.codes (F := Ideal) (X2 x) (G2 g)) B (Body.scale (F := Ideal) (X2 x) (G2 g)) wb (ix3 r h l)
      = vR (F := Ideal) x g W s (ix3 r h l) := by
  unfold vR
  refine (v_at _ B _ wb r h l).trans (Eq.trans ?_ (vR_at _ _ _ W _ r h l).symm)
  rw [proj x g W s B wb 9 (by omega) hB hw]

end Cert.Math

end
-- ==== Proof.KernelValue.lean ====
/- What the kernel's run leaves in its five results: the plain program's results of the same arguments. -/
module

public import proofs.«01_k».proof.Proof.KernelBlocks
public import proofs.«01_k».proof.Proof.MathBlocks

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Cert.ReferenceIdeal.Host
open Cert.KernelIdeal.Body Cert.Math Idealize.SL.Sem
open Idealize.ShloMosaic.Pipeline (Dat)

variable (m : (ℓ : Loc nD τ sig) → Buf (Elt Ideal) ℓ) (ρ : Dev nD → PrngReg)

/-- The codes and the scale the launch holds, -/
theorem codesV_eq (c : Dev nD) : codesV m c = Body.codes (F := Ideal) (X2 (m ((c : Thread nD τ).loc main_arg0))) (G2 (m ((c : Thread nD τ).loc main_arg1))) := by
  unfold codesV
  rw [blk_x, blk_g]
theorem scaleV_eq (c : Dev nD) : scaleV m c = Body.scale (F := Ideal) (X2 (m ((c : Thread nD τ).loc main_arg0))) (G2 (m ((c : Thread nD τ).loc main_arg1))) := by
  unfold scaleV
  rw [blk_x, blk_g]
/-- and the rotation tables. -/
theorem cosV_eq (c : Dev nD) : cosV m c = Body.cosT (F := Ideal) (m ((c : Thread nD τ).loc main_arg2)) := by
  unfold cosV
  rw [blk_p]
theorem sinV_eq (c : Dev nD) : sinV m c = Body.sinT (F := Ideal) (m ((c : Thread nD τ).loc main_arg2)) := by
  unfold sinV
  rw [blk_p]

/-- Block `t` of q. -/
theorem q_point (c : Dev nD) (t : Fin cfg0.N) (ht : t.val < 8) (r : Fin 48) (h : Fin 8) (l : Fin 128) :
    (show FVec Ideal S48x8x128 .bf16 from qV m c t) (ix3 r h l) = qR (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 r ⟨t.val * 8 + h.val, by omega⟩ l) := by
  unfold qV
  rw [codesV_eq, scaleV_eq, cosV_eq, sinV_eq]
  exact q_block _ _ _ (m ((c : Thread nD τ).loc main_arg3)) (m ((c : Thread nD τ).loc main_arg4)) _ _ t.val ht (blk_w m c t) (blk_s m c t) r h l

/-- k. -/
theorem k_point (c : Dev nD) (r : Fin 48) (h : Fin 8) (l : Fin 128) :
    (show FVec Ideal S48x8x128 .bf16 from kV m c) (ix3 r h l) = keysR (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 r h l) := by
  unfold kV
  rw [codesV_eq, scaleV_eq, cosV_eq, sinV_eq]
  exact k_block _ _ _ (m ((c : Thread nD τ).loc main_arg3)) (m ((c : Thread nD τ).loc main_arg4)) _ _ (blk_w m c p8) (blk_s m c p8) r h l

/-- v. -/
theorem v_point (c : Dev nD) (r : Fin 48) (h : Fin 8) (l : Fin 128) :
    (show FVec Ideal S48x8x128 .bf16 from vV m c) (ix3 r h l) = vR (F := Ideal) (m ((c : Thread nD τ).loc main_arg0)) (m ((c : Thread nD τ).loc main_arg1)) (m ((c : Thread nD τ).loc main_arg3)) (m ((c : Thread nD τ).loc main_arg4)) (ix3 r h l) := by
  unfold vV
  rw [codesV_eq, scaleV_eq]
  exact v_block _ _ (m ((c : Thread nD τ).loc main_arg3)) (m ((c : Thread nD τ).loc main_arg4)) _ _ (blk_w m c p9) (blk_s m c p9) r h l

/-! ## The arrays after the run -/

/-- q: the written-back blocks cover it, eight heads each. -/
theorem final5 (c : Dev nD) : (dats m 0 c).arrAt 5 (cfgs 0).N = qR (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hq : (pq t).val < 8 := by show min t.val 7 < 8; omega
  have hy := q_point m c (pq t) hq (y 0) (y 1) (y 2)
  have e1 : ix3 (n0 := 48) (n1 := 8) (n2 := 128) (y 0) (y 1) (y 2) = y := (eq_ix3 y).symm
  refine (congrArg (qV m c (pq t)) e1.symm).trans (hy.trans (congrArg (qR (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_))
  blk_ext [idx t]

/-- k: one block. -/
theorem final6 (c : Dev nD) : (dats m 0 c).arrAt 6 (cfgs 0).N = keysR (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have hy := k_point m c (y 0) (y 1) (y 2)
  have e1 : ix3 (n0 := 48) (n1 := 8) (n2 := 128) (y 0) (y 1) (y 2) = y := (eq_ix3 y).symm
  refine (congrArg (kV m c) e1.symm).trans (hy.trans (congrArg (keysR (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_))
  blk_ext [idx t]

/-- v: one block. -/
theorem final7 (c : Dev nD) : (dats m 0 c).arrAt 7 (cfgs 0).N = vR (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  have hy := v_point m c (y 0) (y 1) (y 2)
  have e1 : ix3 (n0 := 48) (n1 := 8) (n2 := 128) (y 0) (y 1) (y 2) = y := (eq_ix3 y).symm
  refine (congrArg (vV m c) e1.symm).trans (hy.trans (congrArg (vR (F := Ideal) (m ((c : Thread nD τ).loc main_arg0)) (m ((c : Thread nD τ).loc main_arg1)) (m ((c : Thread nD τ).loc main_arg3)) (m ((c : Thread nD τ).loc main_arg4))) ?_))
  blk_ext [idx t]

/-- The codes. -/
theorem final8 (c : Dev nD) : (dats m 0 c).arrAt 8 (cfgs 0).N = codesR (F := Ideal) (m ((c : Thread nD τ).loc main_arg0)) (m ((c : Thread nD τ).loc main_arg1)) := by
  refine (dats m 0 c).arrAt_eq_of_covers 8 _ (by decide +kernel) fun t hf y => ?_
  blk_simp
  rw [after0_8, codesV_eq, codes_eq]
  generalize codesR (F := Ideal) _ _ = z
  blk_ext [idx t]

/-- The scale. -/
theorem final9 (c : Dev nD) : (dats m 0 c).arrAt 9 (cfgs 0).N = scaleR (F := Ideal) (m ((c : Thread nD τ).loc main_arg0)) (m ((c : Thread nD τ).loc main_arg1)) := by
  refine (dats m 0 c).arrAt_eq_of_covers 9 _ (by decide +kernel) fun t hf y => ?_
  blk_simp
  rw [after0_9, scaleV_eq, scale_eq]
  generalize scaleR (F := Ideal) _ _ = z
  blk_ext [idx t]

/-- The kernel's run: its five results and its arguments. -/
theorem run : θ_run defs (onTc (τ := τ) (main (F := Ideal))) ⟨m, fun _ => 0, ρ⟩ (fun r => ∀ c : Dev nD,
    r.2.mem ((c : Thread nD τ).loc main_v3_0) = qR (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v3_1) = keysR (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v3_2) = vR (F := Ideal) (m ((c : Thread nD τ).loc main_arg0)) (m ((c : Thread nD τ).loc main_arg1)) (m ((c : Thread nD τ).loc main_arg3)) (m ((c : Thread nD τ).loc main_arg4))
    ∧ r.2.mem ((c : Thread nD τ).loc main_v3_3) = codesR (F := Ideal) (m ((c : Thread nD τ).loc main_arg0)) (m ((c : Thread nD τ).loc main_arg1))
    ∧ r.2.mem ((c : Thread nD τ).loc main_v3_4) = scaleR (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  refine (θ_run defs _ _).mono (fun r h c => ?_) (run_main m ρ)
  refine ⟨((h c).1 5).trans (final5 m c), ((h c).1 6).trans (final6 m c), ((h c).1 7).trans (final7 m c), ((h c).1 8).trans (final8 m c),
    ((h c).1 9).trans (final9 m c), ?_, ?_, ?_, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))
  · exact ((h c).2 main_arg4 (Pipeline.mem_restRefs_of main_arg4 (by decide) (by decide))).trans (V_main_arg4 m c)

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelSame
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- From equal arguments, whatever they are, kernel and reference end with the same five results at the
    ideal instance: q, k, v, the codes and the scale of the reference's own formulas. -/
theorem algebraic : Cert.algebraic_KernelIdeal_ReferenceIdeal := fun m g m' g' _ hagree =>
  ⟨fun c => Cert.ReferenceIdeal.Host.qR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
   fun c => Cert.ReferenceIdeal.Host.keysR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
   fun c => Cert.ReferenceIdeal.Host.vR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
   fun c => Cert.ReferenceIdeal.Host.codesR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
   fun c => Cert.ReferenceIdeal.Host.scaleR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
   Cert.KernelIdeal.Value.run m g,
   (θ_run _ _ _).mono (fun r h c => by
     obtain ⟨a0, a1, a2, a3, a4⟩ := hagree c
     obtain ⟨h0, h1, h2, h3, h4, h5⟩ := h c
     exact ⟨h0.trans (by rw [a0, a1, a2, a3, a4]), h1.trans (by rw [a0, a1, a2, a3, a4]), h2.trans (by rw [a0, a1, a3, a4]),
       h3.trans (by rw [a0, a1]), h4.trans (by rw [a0, a1]), h5⟩) (Cert.ReferenceIdeal.Host.run m' g')⟩

/-- The five claims: the three programs run safely and leave their arguments alone, the ideal program is
    the kernel's own, and at the ideal instance it computes what the reference does. -/
theorem claim : Cert.Claim :=
  ⟨Cert.Kernel.Gen.facts, Cert.KernelIdeal.Gen.facts, Cert.ReferenceIdeal.Gen.facts,
   Cert.Kernel.Same.frame, fun m ρ _ => Cert.KernelIdeal.Body.frame m ρ,
   fun m ρ _ => Cert.ReferenceIdeal.Gen.frame m ρ, trivial, algebraic⟩

end Cert.Proof

end
